-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x512 : Shape := ⟨2, ![16384, 512]⟩
abbrev S256x128 : Shape := ⟨2, ![256, 128]⟩
abbrev S128x128 : Shape := ⟨2, ![128, 128]⟩
abbrev S_ : Shape := ⟨0, ![]⟩
abbrev S16 : Shape := ⟨1, ![16]⟩
abbrev S1x16 : Shape := ⟨2, ![1, 16]⟩

abbrev nBuf : Table → Nat
  | .hbm => 2
  | .local .scVector .vmem => 4
  | _ => 0

abbrev bufTy : (tb : Table) → Fin (nBuf tb) → BufTy
  | .hbm, ⟨0, _⟩ => ⟨S16384x512, .f32⟩
  | .hbm, ⟨1, _⟩ => ⟨S16384x512, .f32⟩
  | .local .scVector .vmem, ⟨0, _⟩ => ⟨S256x128, .f32⟩
  | .local .scVector .vmem, ⟨1, _⟩ => ⟨S256x128, .f32⟩
  | .local .scVector .vmem, ⟨2, _⟩ => ⟨S128x128, .f32⟩
  | .local .scVector .vmem, ⟨3, _⟩ => ⟨S128x128, .f32⟩
  | _, _ => ⟨S16384x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c4_i32 : BitVec 32 := 4#32
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v1 c4_i32
  let c0_i32_3 : BitVec 32 := 0#32
  let v17 : BitVec 1 := Scalar.cmpi .ne v16 c0_i32_3
  let v18 : BitVec 1 := Scalar.andi v15 v17
  let v4 : BitVec 32 := Scalar.divsi v1 c4_i32
  let c1_i32 : BitVec 32 := 1#32
  let v19 : BitVec 32 := Scalar.subi v4 c1_i32
  let v20 : BitVec 32 := Scalar.select v18 v19 v4
  let c1024_i32 : BitVec 32 := 1024#32
  let v32 : BitVec 32 := Scalar.muli v20 c1024_i32
  let v33 : BitVec 32 := Scalar.addi v32 c0_i32_10
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c128_i32 : BitVec 32 := 128#32
  let v31 : BitVec 32 := Scalar.muli v30 c128_i32
  ![v33.toNat, v31.toNat]
@[reducible] def k0_t1_loop : Scf.Loop 32 :=
  let c0_i32_64 : BitVec 32 := 0#32
  let c32_i32_65 : BitVec 32 := 32#32
  let v136 : BitVec 32 := Scalar.addi c0_i32_64 c32_i32_65
  let c1_i32_66 : BitVec 32 := 1#32
  ⟨c0_i32_64, v136, c1_i32_66⟩
def k0_off2 (k0_t1 : Fin k0_t1_loop.trips) (c0_i32_427 : BitVec 32) : Fin 2 → Nat :=
  let c0_i32_64 : BitVec 32 := 0#32
  let c1_i32_66 : BitVec 32 := 1#32
  let arg10 : BitVec 32 := Scf.iv c0_i32_64 c1_i32_66 k0_t1
  let c8_i32 : BitVec 32 := 8#32
  let v720 : BitVec 32 := Scalar.muli arg10 c8_i32
  let v721 : BitVec 32 := Scalar.addi v720 c0_i32_427
  let v722 : Index := Scalar.indexCast v721
  let c0 : Index := 0#32
  ![v722.toNat, 0]
def k0_off3 (k0_t1 : Fin k0_t1_loop.trips) (c0_i32_428 : BitVec 32) : Fin 2 → Nat :=
  let c0_i32_64 : BitVec 32 := 0#32
  let c1_i32_66 : BitVec 32 := 1#32
  let arg10 : BitVec 32 := Scf.iv c0_i32_64 c1_i32_66 k0_t1
  let c8_i32 : BitVec 32 := 8#32
  let v720 : BitVec 32 := Scalar.muli arg10 c8_i32
  let v726 : BitVec 32 := Scalar.addi v720 c0_i32_428
  let v727 : Index := Scalar.indexCast v726
  let c16 : Index := 16#32
  ![v727.toNat, 16]
def k0_off4 (k0_t1 : Fin k0_t1_loop.trips) (c0_i32_429 : BitVec 32) : Fin 2 → Nat :=
  let c0_i32_64 : BitVec 32 := 0#32
  let c1_i32_66 : BitVec 32 := 1#32
  let arg10 : BitVec 32 := Scf.iv c0_i32_64 c1_i32_66 k0_t1
  let c8_i32 : BitVec 32 := 8#32
  let v720 : BitVec 32 := Scalar.muli arg10 c8_i32
  let v731 : BitVec 32 := Scalar.addi v720 c0_i32_429
  let v732 : Index := Scalar.indexCast v731
  let c32 : Index := 32#32
  ![v732.toNat, 32]
def k0_off5 (k0_t1 : Fin k0_t1_loop.trips) (c0_i32_430 : BitVec 32) : Fin 2 → Nat :=
  let c0_i32_64 : BitVec 32 := 0#32
  let c1_i32_66 : BitVec 32 := 1#32
  let arg10 : BitVec 32 := Scf.iv c0_i32_64 c1_i32_66 k0_t1
  let c8_i32 : BitVec 32 := 8#32
  let v720 : BitVec 32 := Scalar.muli arg10 c8_i32
  let v736 : BitVec 32 := Scalar.addi v720 c0_i32_430
  let v737 : Index := Scalar.indexCast v736
  let c48 : Index := 48#32
  ![v737.toNat, 48]
def k0_off6 (k0_t1 : Fin k0_t1_loop.trips) (c0_i32_431 : BitVec 32) : Fin 2 → Nat :=
  let c0_i32_64 : BitVec 32 := 0#32
  let c1_i32_66 : BitVec 32 := 1#32
  let arg10 : BitVec 32 := Scf.iv c0_i32_64 c1_i32_66 k0_t1
  let c8_i32 : BitVec 32 := 8#32
  let v720 : BitVec 32 := Scalar.muli arg10 c8_i32
  let v741 : BitVec 32 := Scalar.addi v720 c0_i32_431
  let v742 : Index := Scalar.indexCast v741
  let c64 : Index := 64#32
  ![v742.toNat, 64]
def k0_off7 (k0_t1 : Fin k0_t1_loop.trips) (c0_i32_432 : BitVec 32) : Fin 2 → Nat :=
  let c0_i32_64 : BitVec 32 := 0#32
  let c1_i32_66 : BitVec 32 := 1#32
  let arg10 : BitVec 32 := Scf.iv c0_i32_64 c1_i32_66 k0_t1
  let c8_i32 : BitVec 32 := 8#32
  let v720 : BitVec 32 := Scalar.muli arg10 c8_i32
  let v746 : BitVec 32 := Scalar.addi v720 c0_i32_432
  let v747 : Index := Scalar.indexCast v746
  let c80 : Index := 80#32
  ![v747.toNat, 80]
def k0_off8 (k0_t1 : Fin k0_t1_loop.trips) (c0_i32_433 : BitVec 32) : Fin 2 → Nat :=
  let c0_i32_64 : BitVec 32 := 0#32
  let c1_i32_66 : BitVec 32 := 1#32
  let arg10 : BitVec 32 := Scf.iv c0_i32_64 c1_i32_66 k0_t1
  let c8_i32 : BitVec 32 := 8#32
  let v720 : BitVec 32 := Scalar.muli arg10 c8_i32
  let v751 : BitVec 32 := Scalar.addi v720 c0_i32_433
  let v752 : Index := Scalar.indexCast v751
  let c96 : Index := 96#32
  ![v752.toNat, 96]
def k0_off9 (k0_t1 : Fin k0_t1_loop.trips) (c0_i32_434 : BitVec 32) : Fin 2 → Nat :=
  let c0_i32_64 : BitVec 32 := 0#32
  let c1_i32_66 : BitVec 32 := 1#32
  let arg10 : BitVec 32 := Scf.iv c0_i32_64 c1_i32_66 k0_t1
  let c8_i32 : BitVec 32 := 8#32
  let v720 : BitVec 32 := Scalar.muli arg10 c8_i32
  let v756 : BitVec 32 := Scalar.addi v720 c0_i32_434
  let v757 : Index := Scalar.indexCast v756
  let c112 : Index := 112#32
  ![v757.toNat, 112]
@[reducible] def k0_t2_loop : Scf.Loop 32 :=
  let c0_i32_99 : BitVec 32 := 0#32
  let c32_i32_100 : BitVec 32 := 32#32
  let v202 : BitVec 32 := Scalar.addi c0_i32_99 c32_i32_100
  let c1_i32_101 : BitVec 32 := 1#32
  ⟨c0_i32_99, v202, c1_i32_101⟩
def k0_off10 (k0_t2 : Fin k0_t2_loop.trips) (c0_i32_427 : BitVec 32) : Fin 2 → Nat :=
  let c0_i32_99 : BitVec 32 := 0#32
  let c1_i32_101 : BitVec 32 := 1#32
  let arg10 : BitVec 32 := Scf.iv c0_i32_99 c1_i32_101 k0_t2
  let c8_i32 : BitVec 32 := 8#32
  let v720 : BitVec 32 := Scalar.muli arg10 c8_i32
  let v721 : BitVec 32 := Scalar.addi v720 c0_i32_427
  let v722 : Index := Scalar.indexCast v721
  let c0 : Index := 0#32
  ![v722.toNat, 0]
def k0_off11 (k0_t2 : Fin k0_t2_loop.trips) (c0_i32_428 : BitVec 32) : Fin 2 → Nat :=
  let c0_i32_99 : BitVec 32 := 0#32
  let c1_i32_101 : BitVec 32 := 1#32
  let arg10 : BitVec 32 := Scf.iv c0_i32_99 c1_i32_101 k0_t2
  let c8_i32 : BitVec 32 := 8#32
  let v720 : BitVec 32 := Scalar.muli arg10 c8_i32
  let v726 : BitVec 32 := Scalar.addi v720 c0_i32_428
  let v727 : Index := Scalar.indexCast v726
  let c16 : Index := 16#32
  ![v727.toNat, 16]
def k0_off12 (k0_t2 : Fin k0_t2_loop.trips) (c0_i32_429 : BitVec 32) : Fin 2 → Nat :=
  let c0_i32_99 : BitVec 32 := 0#32
  let c1_i32_101 : BitVec 32 := 1#32
  let arg10 : BitVec 32 := Scf.iv c0_i32_99 c1_i32_101 k0_t2
  let c8_i32 : BitVec 32 := 8#32
  let v720 : BitVec 32 := Scalar.muli arg10 c8_i32
  let v731 : BitVec 32 := Scalar.addi v720 c0_i32_429
  let v732 : Index := Scalar.indexCast v731
  let c32 : Index := 32#32
  ![v732.toNat, 32]
def k0_off13 (k0_t2 : Fin k0_t2_loop.trips) (c0_i32_430 : BitVec 32) : Fin 2 → Nat :=
  let c0_i32_99 : BitVec 32 := 0#32
  let c1_i32_101 : BitVec 32 := 1#32
  let arg10 : BitVec 32 := Scf.iv c0_i32_99 c1_i32_101 k0_t2
  let c8_i32 : BitVec 32 := 8#32
  let v720 : BitVec 32 := Scalar.muli arg10 c8_i32
  let v736 : BitVec 32 := Scalar.addi v720 c0_i32_430
  let v737 : Index := Scalar.indexCast v736
  let c48 : Index := 48#32
  ![v737.toNat, 48]
def k0_off14 (k0_t2 : Fin k0_t2_loop.trips) (c0_i32_431 : BitVec 32) : Fin 2 → Nat :=
  let c0_i32_99 : BitVec 32 := 0#32
  let c1_i32_101 : BitVec 32 := 1#32
  let arg10 : BitVec 32 := Scf.iv c0_i32_99 c1_i32_101 k0_t2
  let c8_i32 : BitVec 32 := 8#32
  let v720 : BitVec 32 := Scalar.muli arg10 c8_i32
  let v741 : BitVec 32 := Scalar.addi v720 c0_i32_431
  let v742 : Index := Scalar.indexCast v741
  let c64 : Index := 64#32
  ![v742.toNat, 64]
def k0_off15 (k0_t2 : Fin k0_t2_loop.trips) (c0_i32_432 : BitVec 32) : Fin 2 → Nat :=
  let c0_i32_99 : BitVec 32 := 0#32
  let c1_i32_101 : BitVec 32 := 1#32
  let arg10 : BitVec 32 := Scf.iv c0_i32_99 c1_i32_101 k0_t2
  let c8_i32 : BitVec 32 := 8#32
  let v720 : BitVec 32 := Scalar.muli arg10 c8_i32
  let v746 : BitVec 32 := Scalar.addi v720 c0_i32_432
  let v747 : Index := Scalar.indexCast v746
  let c80 : Index := 80#32
  ![v747.toNat, 80]
def k0_off16 (k0_t2 : Fin k0_t2_loop.trips) (c0_i32_433 : BitVec 32) : Fin 2 → Nat :=
  let c0_i32_99 : BitVec 32 := 0#32
  let c1_i32_101 : BitVec 32 := 1#32
  let arg10 : BitVec 32 := Scf.iv c0_i32_99 c1_i32_101 k0_t2
  let c8_i32 : BitVec 32 := 8#32
  let v720 : BitVec 32 := Scalar.muli arg10 c8_i32
  let v751 : BitVec 32 := Scalar.addi v720 c0_i32_433
  let v752 : Index := Scalar.indexCast v751
  let c96 : Index := 96#32
  ![v752.toNat, 96]
def k0_off17 (k0_t2 : Fin k0_t2_loop.trips) (c0_i32_434 : BitVec 32) : Fin 2 → Nat :=
  let c0_i32_99 : BitVec 32 := 0#32
  let c1_i32_101 : BitVec 32 := 1#32
  let arg10 : BitVec 32 := Scf.iv c0_i32_99 c1_i32_101 k0_t2
  let c8_i32 : BitVec 32 := 8#32
  let v720 : BitVec 32 := Scalar.muli arg10 c8_i32
  let v756 : BitVec 32 := Scalar.addi v720 c0_i32_434
  let v757 : Index := Scalar.indexCast v756
  let c112 : Index := 112#32
  ![v757.toNat, 112]
@[reducible] def k0_t3_loop : Scf.Loop 32 :=
  let c0_i32_134 : BitVec 32 := 0#32
  let c32_i32_135 : BitVec 32 := 32#32
  let v268 : BitVec 32 := Scalar.addi c0_i32_134 c32_i32_135
  let c1_i32_136 : BitVec 32 := 1#32
  ⟨c0_i32_134, v268, c1_i32_136⟩
def k0_off18 (k0_t3 : Fin k0_t3_loop.trips) (c0_i32_427 : BitVec 32) : Fin 2 → Nat :=
  let c0_i32_134 : BitVec 32 := 0#32
  let c1_i32_136 : BitVec 32 := 1#32
  let arg10 : BitVec 32 := Scf.iv c0_i32_134 c1_i32_136 k0_t3
  let c8_i32 : BitVec 32 := 8#32
  let v720 : BitVec 32 := Scalar.muli arg10 c8_i32
  let v721 : BitVec 32 := Scalar.addi v720 c0_i32_427
  let v722 : Index := Scalar.indexCast v721
  let c0 : Index := 0#32
  ![v722.toNat, 0]
def k0_off19 (k0_t3 : Fin k0_t3_loop.trips) (c0_i32_428 : BitVec 32) : Fin 2 → Nat :=
  let c0_i32_134 : BitVec 32 := 0#32
  let c1_i32_136 : BitVec 32 := 1#32
  let arg10 : BitVec 32 := Scf.iv c0_i32_134 c1_i32_136 k0_t3
  let c8_i32 : BitVec 32 := 8#32
  let v720 : BitVec 32 := Scalar.muli arg10 c8_i32
  let v726 : BitVec 32 := Scalar.addi v720 c0_i32_428
  let v727 : Index := Scalar.indexCast v726
  let c16 : Index := 16#32
  ![v727.toNat, 16]
def k0_off20 (k0_t3 : Fin k0_t3_loop.trips) (c0_i32_429 : BitVec 32) : Fin 2 → Nat :=
  let c0_i32_134 : BitVec 32 := 0#32
  let c1_i32_136 : BitVec 32 := 1#32
  let arg10 : BitVec 32 := Scf.iv c0_i32_134 c1_i32_136 k0_t3
  let c8_i32 : BitVec 32 := 8#32
  let v720 : BitVec 32 := Scalar.muli arg10 c8_i32
  let v731 : BitVec 32 := Scalar.addi v720 c0_i32_429
  let v732 : Index := Scalar.indexCast v731
  let c32 : Index := 32#32
  ![v732.toNat, 32]
def k0_off21 (k0_t3 : Fin k0_t3_loop.trips) (c0_i32_430 : BitVec 32) : Fin 2 → Nat :=
  let c0_i32_134 : BitVec 32 := 0#32
  let c1_i32_136 : BitVec 32 := 1#32
  let arg10 : BitVec 32 := Scf.iv c0_i32_134 c1_i32_136 k0_t3
  let c8_i32 : BitVec 32 := 8#32
  let v720 : BitVec 32 := Scalar.muli arg10 c8_i32
  let v736 : BitVec 32 := Scalar.addi v720 c0_i32_430
  let v737 : Index := Scalar.indexCast v736
  let c48 : Index := 48#32
  ![v737.toNat, 48]
def k0_off22 (k0_t3 : Fin k0_t3_loop.trips) (c0_i32_431 : BitVec 32) : Fin 2 → Nat :=
  let c0_i32_134 : BitVec 32 := 0#32
  let c1_i32_136 : BitVec 32 := 1#32
  let arg10 : BitVec 32 := Scf.iv c0_i32_134 c1_i32_136 k0_t3
  let c8_i32 : BitVec 32 := 8#32
  let v720 : BitVec 32 := Scalar.muli arg10 c8_i32
  let v741 : BitVec 32 := Scalar.addi v720 c0_i32_431
  let v742 : Index := Scalar.indexCast v741
  let c64 : Index := 64#32
  ![v742.toNat, 64]
def k0_off23 (k0_t3 : Fin k0_t3_loop.trips) (c0_i32_432 : BitVec 32) : Fin 2 → Nat :=
  let c0_i32_134 : BitVec 32 := 0#32
  let c1_i32_136 : BitVec 32 := 1#32
  let arg10 : BitVec 32 := Scf.iv c0_i32_134 c1_i32_136 k0_t3
  let c8_i32 : BitVec 32 := 8#32
  let v720 : BitVec 32 := Scalar.muli arg10 c8_i32
  let v746 : BitVec 32 := Scalar.addi v720 c0_i32_432
  let v747 : Index := Scalar.indexCast v746
  let c80 : Index := 80#32
  ![v747.toNat, 80]
def k0_off24 (k0_t3 : Fin k0_t3_loop.trips) (c0_i32_433 : BitVec 32) : Fin 2 → Nat :=
  let c0_i32_134 : BitVec 32 := 0#32
  let c1_i32_136 : BitVec 32 := 1#32
  let arg10 : BitVec 32 := Scf.iv c0_i32_134 c1_i32_136 k0_t3
  let c8_i32 : BitVec 32 := 8#32
  let v720 : BitVec 32 := Scalar.muli arg10 c8_i32
  let v751 : BitVec 32 := Scalar.addi v720 c0_i32_433
  let v752 : Index := Scalar.indexCast v751
  let c96 : Index := 96#32
  ![v752.toNat, 96]
def k0_off25 (k0_t3 : Fin k0_t3_loop.trips) (c0_i32_434 : BitVec 32) : Fin 2 → Nat :=
  let c0_i32_134 : BitVec 32 := 0#32
  let c1_i32_136 : BitVec 32 := 1#32
  let arg10 : BitVec 32 := Scf.iv c0_i32_134 c1_i32_136 k0_t3
  let c8_i32 : BitVec 32 := 8#32
  let v720 : BitVec 32 := Scalar.muli arg10 c8_i32
  let v756 : BitVec 32 := Scalar.addi v720 c0_i32_434
  let v757 : Index := Scalar.indexCast v756
  let c112 : Index := 112#32
  ![v757.toNat, 112]
def k0_off26 (i : grid0.Coords) (c0_i32_169 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v3 : BitVec 32 := Scalar.addi v1 c32_i32
  let c0_i32_155 : BitVec 32 := 0#32
  let v303 : BitVec 1 := Scalar.cmpi .sgt v3 c0_i32_155
  let v304 : BitVec 32 := Scalar.extui v303
  let c0_i32_156 : BitVec 32 := 0#32
  let v305 : BitVec 1 := Scalar.cmpi .slt v3 c0_i32_156
  let v306 : BitVec 32 := Scalar.extui v305
  let v307 : BitVec 32 := Scalar.subi v304 v306
  let c4_i32_154 : BitVec 32 := 4#32
  let c0_i32_157 : BitVec 32 := 0#32
  let v308 : BitVec 1 := Scalar.cmpi .sgt c4_i32_154 c0_i32_157
  let v309 : BitVec 32 := Scalar.extui v308
  let c0_i32_158 : BitVec 32 := 0#32
  let v310 : BitVec 1 := Scalar.cmpi .slt c4_i32_154 c0_i32_158
  let v311 : BitVec 32 := Scalar.extui v310
  let v312 : BitVec 32 := Scalar.subi v309 v311
  let v313 : BitVec 1 := Scalar.cmpi .ne v307 v312
  let v314 : BitVec 32 := Scalar.remsi v3 c4_i32_154
  let c0_i32_159 : BitVec 32 := 0#32
  let v315 : BitVec 1 := Scalar.cmpi .ne v314 c0_i32_159
  let v316 : BitVec 1 := Scalar.andi v313 v315
  let v302 : BitVec 32 := Scalar.divsi v3 c4_i32_154
  let c1_i32_160 : BitVec 32 := 1#32
  let v317 : BitVec 32 := Scalar.subi v302 c1_i32_160
  let v318 : BitVec 32 := Scalar.select v316 v317 v302
  let c1024_i32_168 : BitVec 32 := 1024#32
  let v330 : BitVec 32 := Scalar.muli v318 c1024_i32_168
  let v331 : BitVec 32 := Scalar.addi v330 c0_i32_169
  let c4_i32_161 : BitVec 32 := 4#32
  let c0_i32_162 : BitVec 32 := 0#32
  let v319 : BitVec 1 := Scalar.cmpi .eq c4_i32_161 c0_i32_162
  let c1_i32_163 : BitVec 32 := 1#32
  let v320 : BitVec 32 := Scalar.select v319 c1_i32_163 c4_i32_161
  let v321 : BitVec 32 := Scalar.remsi v3 v320
  let c0_i32_165 : BitVec 32 := 0#32
  let v323 : BitVec 1 := Scalar.cmpi .slt v321 c0_i32_165
  let c0_i32_166 : BitVec 32 := 0#32
  let v324 : BitVec 1 := Scalar.cmpi .slt v320 c0_i32_166
  let v325 : BitVec 1 := Scalar.xori v323 v324
  let c0_i32_164 : BitVec 32 := 0#32
  let v322 : BitVec 1 := Scalar.cmpi .ne v321 c0_i32_164
  let v326 : BitVec 1 := Scalar.andi v325 v322
  let v327 : BitVec 32 := Scalar.addi v321 v320
  let v328 : BitVec 32 := Scalar.select v326 v327 v321
  let c128_i32_167 : BitVec 32 := 128#32
  let v329 : BitVec 32 := Scalar.muli v328 c128_i32_167
  ![v331.toNat, v329.toNat]
@[reducible] def k0_t4_loop : Scf.Loop 32 :=
  let c0_i32_170 : BitVec 32 := 0#32
  let c32_i32_171 : BitVec 32 := 32#32
  let v334 : BitVec 32 := Scalar.addi c0_i32_170 c32_i32_171
  let c1_i32_172 : BitVec 32 := 1#32
  ⟨c0_i32_170, v334, c1_i32_172⟩
def k0_off27 (k0_t4 : Fin k0_t4_loop.trips) (c0_i32_427 : BitVec 32) : Fin 2 → Nat :=
  let c0_i32_170 : BitVec 32 := 0#32
  let c1_i32_172 : BitVec 32 := 1#32
  let arg10 : BitVec 32 := Scf.iv c0_i32_170 c1_i32_172 k0_t4
  let c8_i32 : BitVec 32 := 8#32
  let v720 : BitVec 32 := Scalar.muli arg10 c8_i32
  let v721 : BitVec 32 := Scalar.addi v720 c0_i32_427
  let v722 : Index := Scalar.indexCast v721
  let c0 : Index := 0#32
  ![v722.toNat, 0]
def k0_off28 (k0_t4 : Fin k0_t4_loop.trips) (c0_i32_428 : BitVec 32) : Fin 2 → Nat :=
  let c0_i32_170 : BitVec 32 := 0#32
  let c1_i32_172 : BitVec 32 := 1#32
  let arg10 : BitVec 32 := Scf.iv c0_i32_170 c1_i32_172 k0_t4
  let c8_i32 : BitVec 32 := 8#32
  let v720 : BitVec 32 := Scalar.muli arg10 c8_i32
  let v726 : BitVec 32 := Scalar.addi v720 c0_i32_428
  let v727 : Index := Scalar.indexCast v726
  let c16 : Index := 16#32
  ![v727.toNat, 16]
def k0_off29 (k0_t4 : Fin k0_t4_loop.trips) (c0_i32_429 : BitVec 32) : Fin 2 → Nat :=
  let c0_i32_170 : BitVec 32 := 0#32
  let c1_i32_172 : BitVec 32 := 1#32
  let arg10 : BitVec 32 := Scf.iv c0_i32_170 c1_i32_172 k0_t4
  let c8_i32 : BitVec 32 := 8#32
  let v720 : BitVec 32 := Scalar.muli arg10 c8_i32
  let v731 : BitVec 32 := Scalar.addi v720 c0_i32_429
  let v732 : Index := Scalar.indexCast v731
  let c32 : Index := 32#32
  ![v732.toNat, 32]
def k0_off30 (k0_t4 : Fin k0_t4_loop.trips) (c0_i32_430 : BitVec 32) : Fin 2 → Nat :=
  let c0_i32_170 : BitVec 32 := 0#32
  let c1_i32_172 : BitVec 32 := 1#32
  let arg10 : BitVec 32 := Scf.iv c0_i32_170 c1_i32_172 k0_t4
  let c8_i32 : BitVec 32 := 8#32
  let v720 : BitVec 32 := Scalar.muli arg10 c8_i32
  let v736 : BitVec 32 := Scalar.addi v720 c0_i32_430
  let v737 : Index := Scalar.indexCast v736
  let c48 : Index := 48#32
  ![v737.toNat, 48]
def k0_off31 (k0_t4 : Fin k0_t4_loop.trips) (c0_i32_431 : BitVec 32) : Fin 2 → Nat :=
  let c0_i32_170 : BitVec 32 := 0#32
  let c1_i32_172 : BitVec 32 := 1#32
  let arg10 : BitVec 32 := Scf.iv c0_i32_170 c1_i32_172 k0_t4
  let c8_i32 : BitVec 32 := 8#32
  let v720 : BitVec 32 := Scalar.muli arg10 c8_i32
  let v741 : BitVec 32 := Scalar.addi v720 c0_i32_431
  let v742 : Index := Scalar.indexCast v741
  let c64 : Index := 64#32
  ![v742.toNat, 64]
def k0_off32 (k0_t4 : Fin k0_t4_loop.trips) (c0_i32_432 : BitVec 32) : Fin 2 → Nat :=
  let c0_i32_170 : BitVec 32 := 0#32
  let c1_i32_172 : BitVec 32 := 1#32
  let arg10 : BitVec 32 := Scf.iv c0_i32_170 c1_i32_172 k0_t4
  let c8_i32 : BitVec 32 := 8#32
  let v720 : BitVec 32 := Scalar.muli arg10 c8_i32
  let v746 : BitVec 32 := Scalar.addi v720 c0_i32_432
  let v747 : Index := Scalar.indexCast v746
  let c80 : Index := 80#32
  ![v747.toNat, 80]
def k0_off33 (k0_t4 : Fin k0_t4_loop.trips) (c0_i32_433 : BitVec 32) : Fin 2 → Nat :=
  let c0_i32_170 : BitVec 32 := 0#32
  let c1_i32_172 : BitVec 32 := 1#32
  let arg10 : BitVec 32 := Scf.iv c0_i32_170 c1_i32_172 k0_t4
  let c8_i32 : BitVec 32 := 8#32
  let v720 : BitVec 32 := Scalar.muli arg10 c8_i32
  let v751 : BitVec 32 := Scalar.addi v720 c0_i32_433
  let v752 : Index := Scalar.indexCast v751
  let c96 : Index := 96#32
  ![v752.toNat, 96]
def k0_off34 (k0_t4 : Fin k0_t4_loop.trips) (c0_i32_434 : BitVec 32) : Fin 2 → Nat :=
  let c0_i32_170 : BitVec 32 := 0#32
  let c1_i32_172 : BitVec 32 := 1#32
  let arg10 : BitVec 32 := Scf.iv c0_i32_170 c1_i32_172 k0_t4
  let c8_i32 : BitVec 32 := 8#32
  let v720 : BitVec 32 := Scalar.muli arg10 c8_i32
  let v756 : BitVec 32 := Scalar.addi v720 c0_i32_434
  let v757 : Index := Scalar.indexCast v756
  let c112 : Index := 112#32
  ![v757.toNat, 112]
@[reducible] def k0_t5_loop : Scf.Loop 32 :=
  let c0_i32_175 : BitVec 32 := 0#32
  let c128_i32_176 : BitVec 32 := 128#32
  let v344 : BitVec 32 := Scalar.addi c0_i32_175 c128_i32_176
  let c1_i32_177 : BitVec 32 := 1#32
  ⟨c0_i32_175, v344, c1_i32_177⟩
def k0_off35 (k0_t5 : Fin k0_t5_loop.trips) : Fin 2 → Nat :=
  let c0_i32_175 : BitVec 32 := 0#32
  let c1_i32_177 : BitVec 32 := 1#32
  let arg10 : BitVec 32 := Scf.iv c0_i32_175 c1_i32_177 k0_t5
  let v720 : Index := Scalar.indexCast arg10
  let c0 : Index := 0#32
  ![v720.toNat, 0]
def k0_off36 (k0_t5 : Fin k0_t5_loop.trips) : Fin 2 → Nat :=
  let c0_i32_175 : BitVec 32 := 0#32
  let c1_i32_177 : BitVec 32 := 1#32
  let arg10 : BitVec 32 := Scf.iv c0_i32_175 c1_i32_177 k0_t5
  let v724 : Index := Scalar.indexCast arg10
  let c16 : Index := 16#32
  ![v724.toNat, 16]
def k0_off37 (k0_t5 : Fin k0_t5_loop.trips) : Fin 2 → Nat :=
  let c0_i32_175 : BitVec 32 := 0#32
  let c1_i32_177 : BitVec 32 := 1#32
  let arg10 : BitVec 32 := Scf.iv c0_i32_175 c1_i32_177 k0_t5
  let v728 : Index := Scalar.indexCast arg10
  let c32 : Index := 32#32
  ![v728.toNat, 32]
def k0_off38 (k0_t5 : Fin k0_t5_loop.trips) : Fin 2 → Nat :=
  let c0_i32_175 : BitVec 32 := 0#32
  let c1_i32_177 : BitVec 32 := 1#32
  let arg10 : BitVec 32 := Scf.iv c0_i32_175 c1_i32_177 k0_t5
  let v732 : Index := Scalar.indexCast arg10
  let c48 : Index := 48#32
  ![v732.toNat, 48]
def k0_off39 (k0_t5 : Fin k0_t5_loop.trips) : Fin 2 → Nat :=
  let c0_i32_175 : BitVec 32 := 0#32
  let c1_i32_177 : BitVec 32 := 1#32
  let arg10 : BitVec 32 := Scf.iv c0_i32_175 c1_i32_177 k0_t5
  let v736 : Index := Scalar.indexCast arg10
  let c64 : Index := 64#32
  ![v736.toNat, 64]
def k0_off40 (k0_t5 : Fin k0_t5_loop.trips) : Fin 2 → Nat :=
  let c0_i32_175 : BitVec 32 := 0#32
  let c1_i32_177 : BitVec 32 := 1#32
  let arg10 : BitVec 32 := Scf.iv c0_i32_175 c1_i32_177 k0_t5
  let v740 : Index := Scalar.indexCast arg10
  let c80 : Index := 80#32
  ![v740.toNat, 80]
def k0_off41 (k0_t5 : Fin k0_t5_loop.trips) : Fin 2 → Nat :=
  let c0_i32_175 : BitVec 32 := 0#32
  let c1_i32_177 : BitVec 32 := 1#32
  let arg10 : BitVec 32 := Scf.iv c0_i32_175 c1_i32_177 k0_t5
  let v744 : Index := Scalar.indexCast arg10
  let c96 : Index := 96#32
  ![v744.toNat, 96]
def k0_off42 (k0_t5 : Fin k0_t5_loop.trips) : Fin 2 → Nat :=
  let c0_i32_175 : BitVec 32 := 0#32
  let c1_i32_177 : BitVec 32 := 1#32
  let arg10 : BitVec 32 := Scf.iv c0_i32_175 c1_i32_177 k0_t5
  let v748 : Index := Scalar.indexCast arg10
  let c112 : Index := 112#32
  ![v748.toNat, 112]
def k0_off43 (i : grid0.Coords) (c0_i32_180 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_12 : BitVec 32 := 0#32
  let v37 : BitVec 1 := Scalar.cmpi .sgt v1 c0_i32_12
  let v38 : BitVec 32 := Scalar.extui v37
  let c0_i32_13 : BitVec 32 := 0#32
  let v39 : BitVec 1 := Scalar.cmpi .slt v1 c0_i32_13
  let v40 : BitVec 32 := Scalar.extui v39
  let v41 : BitVec 32 := Scalar.subi v38 v40
  let c4_i32_11 : BitVec 32 := 4#32
  let c0_i32_14 : BitVec 32 := 0#32
  let v42 : BitVec 1 := Scalar.cmpi .sgt c4_i32_11 c0_i32_14
  let v43 : BitVec 32 := Scalar.extui v42
  let c0_i32_15 : BitVec 32 := 0#32
  let v44 : BitVec 1 := Scalar.cmpi .slt c4_i32_11 c0_i32_15
  let v45 : BitVec 32 := Scalar.extui v44
  let v46 : BitVec 32 := Scalar.subi v43 v45
  let v47 : BitVec 1 := Scalar.cmpi .ne v41 v46
  let v48 : BitVec 32 := Scalar.remsi v1 c4_i32_11
  let c0_i32_16 : BitVec 32 := 0#32
  let v49 : BitVec 1 := Scalar.cmpi .ne v48 c0_i32_16
  let v50 : BitVec 1 := Scalar.andi v47 v49
  let v36 : BitVec 32 := Scalar.divsi v1 c4_i32_11
  let c1_i32_17 : BitVec 32 := 1#32
  let v51 : BitVec 32 := Scalar.subi v36 c1_i32_17
  let v52 : BitVec 32 := Scalar.select v50 v51 v36
  let c1024_i32_179 : BitVec 32 := 1024#32
  let v346 : BitVec 32 := Scalar.muli v52 c1024_i32_179
  let v347 : BitVec 32 := Scalar.addi v346 c0_i32_180
  let c4_i32_18 : BitVec 32 := 4#32
  let c0_i32_19 : BitVec 32 := 0#32
  let v53 : BitVec 1 := Scalar.cmpi .eq c4_i32_18 c0_i32_19
  let c1_i32_20 : BitVec 32 := 1#32
  let v54 : BitVec 32 := Scalar.select v53 c1_i32_20 c4_i32_18
  let v55 : BitVec 32 := Scalar.remsi v1 v54
  let c0_i32_22 : BitVec 32 := 0#32
  let v57 : BitVec 1 := Scalar.cmpi .slt v55 c0_i32_22
  let c0_i32_23 : BitVec 32 := 0#32
  let v58 : BitVec 1 := Scalar.cmpi .slt v54 c0_i32_23
  let v59 : BitVec 1 := Scalar.xori v57 v58
  let c0_i32_21 : BitVec 32 := 0#32
  let v56 : BitVec 1 := Scalar.cmpi .ne v55 c0_i32_21
  let v60 : BitVec 1 := Scalar.andi v59 v56
  let v61 : BitVec 32 := Scalar.addi v55 v54
  let v62 : BitVec 32 := Scalar.select v60 v61 v55
  let c128_i32_24 : BitVec 32 := 128#32
  let v63 : BitVec 32 := Scalar.muli v62 c128_i32_24
  ![v347.toNat, v63.toNat]
@[reducible] def k0_t6_loop : Scf.Loop 32 :=
  let c0_i32_246 : BitVec 32 := 0#32
  let c32_i32_247 : BitVec 32 := 32#32
  let v478 : BitVec 32 := Scalar.addi c0_i32_246 c32_i32_247
  let c1_i32_248 : BitVec 32 := 1#32
  ⟨c0_i32_246, v478, c1_i32_248⟩
def k0_off44 (k0_t6 : Fin k0_t6_loop.trips) (c0_i32_427 : BitVec 32) : Fin 2 → Nat :=
  let c0_i32_246 : BitVec 32 := 0#32
  let c1_i32_248 : BitVec 32 := 1#32
  let arg10 : BitVec 32 := Scf.iv c0_i32_246 c1_i32_248 k0_t6
  let c8_i32 : BitVec 32 := 8#32
  let v720 : BitVec 32 := Scalar.muli arg10 c8_i32
  let v721 : BitVec 32 := Scalar.addi v720 c0_i32_427
  let v722 : Index := Scalar.indexCast v721
  let c0 : Index := 0#32
  ![v722.toNat, 0]
def k0_off45 (k0_t6 : Fin k0_t6_loop.trips) (c0_i32_428 : BitVec 32) : Fin 2 → Nat :=
  let c0_i32_246 : BitVec 32 := 0#32
  let c1_i32_248 : BitVec 32 := 1#32
  let arg10 : BitVec 32 := Scf.iv c0_i32_246 c1_i32_248 k0_t6
  let c8_i32 : BitVec 32 := 8#32
  let v720 : BitVec 32 := Scalar.muli arg10 c8_i32
  let v726 : BitVec 32 := Scalar.addi v720 c0_i32_428
  let v727 : Index := Scalar.indexCast v726
  let c16 : Index := 16#32
  ![v727.toNat, 16]
def k0_off46 (k0_t6 : Fin k0_t6_loop.trips) (c0_i32_429 : BitVec 32) : Fin 2 → Nat :=
  let c0_i32_246 : BitVec 32 := 0#32
  let c1_i32_248 : BitVec 32 := 1#32
  let arg10 : BitVec 32 := Scf.iv c0_i32_246 c1_i32_248 k0_t6
  let c8_i32 : BitVec 32 := 8#32
  let v720 : BitVec 32 := Scalar.muli arg10 c8_i32
  let v731 : BitVec 32 := Scalar.addi v720 c0_i32_429
  let v732 : Index := Scalar.indexCast v731
  let c32 : Index := 32#32
  ![v732.toNat, 32]
def k0_off47 (k0_t6 : Fin k0_t6_loop.trips) (c0_i32_430 : BitVec 32) : Fin 2 → Nat :=
  let c0_i32_246 : BitVec 32 := 0#32
  let c1_i32_248 : BitVec 32 := 1#32
  let arg10 : BitVec 32 := Scf.iv c0_i32_246 c1_i32_248 k0_t6
  let c8_i32 : BitVec 32 := 8#32
  let v720 : BitVec 32 := Scalar.muli arg10 c8_i32
  let v736 : BitVec 32 := Scalar.addi v720 c0_i32_430
  let v737 : Index := Scalar.indexCast v736
  let c48 : Index := 48#32
  ![v737.toNat, 48]
def k0_off48 (k0_t6 : Fin k0_t6_loop.trips) (c0_i32_431 : BitVec 32) : Fin 2 → Nat :=
  let c0_i32_246 : BitVec 32 := 0#32
  let c1_i32_248 : BitVec 32 := 1#32
  let arg10 : BitVec 32 := Scf.iv c0_i32_246 c1_i32_248 k0_t6
  let c8_i32 : BitVec 32 := 8#32
  let v720 : BitVec 32 := Scalar.muli arg10 c8_i32
  let v741 : BitVec 32 := Scalar.addi v720 c0_i32_431
  let v742 : Index := Scalar.indexCast v741
  let c64 : Index := 64#32
  ![v742.toNat, 64]
def k0_off49 (k0_t6 : Fin k0_t6_loop.trips) (c0_i32_432 : BitVec 32) : Fin 2 → Nat :=
  let c0_i32_246 : BitVec 32 := 0#32
  let c1_i32_248 : BitVec 32 := 1#32
  let arg10 : BitVec 32 := Scf.iv c0_i32_246 c1_i32_248 k0_t6
  let c8_i32 : BitVec 32 := 8#32
  let v720 : BitVec 32 := Scalar.muli arg10 c8_i32
  let v746 : BitVec 32 := Scalar.addi v720 c0_i32_432
  let v747 : Index := Scalar.indexCast v746
  let c80 : Index := 80#32
  ![v747.toNat, 80]
def k0_off50 (k0_t6 : Fin k0_t6_loop.trips) (c0_i32_433 : BitVec 32) : Fin 2 → Nat :=
  let c0_i32_246 : BitVec 32 := 0#32
  let c1_i32_248 : BitVec 32 := 1#32
  let arg10 : BitVec 32 := Scf.iv c0_i32_246 c1_i32_248 k0_t6
  let c8_i32 : BitVec 32 := 8#32
  let v720 : BitVec 32 := Scalar.muli arg10 c8_i32
  let v751 : BitVec 32 := Scalar.addi v720 c0_i32_433
  let v752 : Index := Scalar.indexCast v751
  let c96 : Index := 96#32
  ![v752.toNat, 96]
def k0_off51 (k0_t6 : Fin k0_t6_loop.trips) (c0_i32_434 : BitVec 32) : Fin 2 → Nat :=
  let c0_i32_246 : BitVec 32 := 0#32
  let c1_i32_248 : BitVec 32 := 1#32
  let arg10 : BitVec 32 := Scf.iv c0_i32_246 c1_i32_248 k0_t6
  let c8_i32 : BitVec 32 := 8#32
  let v720 : BitVec 32 := Scalar.muli arg10 c8_i32
  let v756 : BitVec 32 := Scalar.addi v720 c0_i32_434
  let v757 : Index := Scalar.indexCast v756
  let c112 : Index := 112#32
  ![v757.toNat, 112]
@[reducible] def k0_t7_loop : Scf.Loop 32 :=
  let c0_i32_282 : BitVec 32 := 0#32
  let c32_i32_283 : BitVec 32 := 32#32
  let v544 : BitVec 32 := Scalar.addi c0_i32_282 c32_i32_283
  let c1_i32_284 : BitVec 32 := 1#32
  ⟨c0_i32_282, v544, c1_i32_284⟩
def k0_off52 (k0_t7 : Fin k0_t7_loop.trips) (c0_i32_427 : BitVec 32) : Fin 2 → Nat :=
  let c0_i32_282 : BitVec 32 := 0#32
  let c1_i32_284 : BitVec 32 := 1#32
  let arg10 : BitVec 32 := Scf.iv c0_i32_282 c1_i32_284 k0_t7
  let c8_i32 : BitVec 32 := 8#32
  let v720 : BitVec 32 := Scalar.muli arg10 c8_i32
  let v721 : BitVec 32 := Scalar.addi v720 c0_i32_427
  let v722 : Index := Scalar.indexCast v721
  let c0 : Index := 0#32
  ![v722.toNat, 0]
def k0_off53 (k0_t7 : Fin k0_t7_loop.trips) (c0_i32_428 : BitVec 32) : Fin 2 → Nat :=
  let c0_i32_282 : BitVec 32 := 0#32
  let c1_i32_284 : BitVec 32 := 1#32
  let arg10 : BitVec 32 := Scf.iv c0_i32_282 c1_i32_284 k0_t7
  let c8_i32 : BitVec 32 := 8#32
  let v720 : BitVec 32 := Scalar.muli arg10 c8_i32
  let v726 : BitVec 32 := Scalar.addi v720 c0_i32_428
  let v727 : Index := Scalar.indexCast v726
  let c16 : Index := 16#32
  ![v727.toNat, 16]
def k0_off54 (k0_t7 : Fin k0_t7_loop.trips) (c0_i32_429 : BitVec 32) : Fin 2 → Nat :=
  let c0_i32_282 : BitVec 32 := 0#32
  let c1_i32_284 : BitVec 32 := 1#32
  let arg10 : BitVec 32 := Scf.iv c0_i32_282 c1_i32_284 k0_t7
  let c8_i32 : BitVec 32 := 8#32
  let v720 : BitVec 32 := Scalar.muli arg10 c8_i32
  let v731 : BitVec 32 := Scalar.addi v720 c0_i32_429
  let v732 : Index := Scalar.indexCast v731
  let c32 : Index := 32#32
  ![v732.toNat, 32]
def k0_off55 (k0_t7 : Fin k0_t7_loop.trips) (c0_i32_430 : BitVec 32) : Fin 2 → Nat :=
  let c0_i32_282 : BitVec 32 := 0#32
  let c1_i32_284 : BitVec 32 := 1#32
  let arg10 : BitVec 32 := Scf.iv c0_i32_282 c1_i32_284 k0_t7
  let c8_i32 : BitVec 32 := 8#32
  let v720 : BitVec 32 := Scalar.muli arg10 c8_i32
  let v736 : BitVec 32 := Scalar.addi v720 c0_i32_430
  let v737 : Index := Scalar.indexCast v736
  let c48 : Index := 48#32
  ![v737.toNat, 48]
def k0_off56 (k0_t7 : Fin k0_t7_loop.trips) (c0_i32_431 : BitVec 32) : Fin 2 → Nat :=
  let c0_i32_282 : BitVec 32 := 0#32
  let c1_i32_284 : BitVec 32 := 1#32
  let arg10 : BitVec 32 := Scf.iv c0_i32_282 c1_i32_284 k0_t7
  let c8_i32 : BitVec 32 := 8#32
  let v720 : BitVec 32 := Scalar.muli arg10 c8_i32
  let v741 : BitVec 32 := Scalar.addi v720 c0_i32_431
  let v742 : Index := Scalar.indexCast v741
  let c64 : Index := 64#32
  ![v742.toNat, 64]
def k0_off57 (k0_t7 : Fin k0_t7_loop.trips) (c0_i32_432 : BitVec 32) : Fin 2 → Nat :=
  let c0_i32_282 : BitVec 32 := 0#32
  let c1_i32_284 : BitVec 32 := 1#32
  let arg10 : BitVec 32 := Scf.iv c0_i32_282 c1_i32_284 k0_t7
  let c8_i32 : BitVec 32 := 8#32
  let v720 : BitVec 32 := Scalar.muli arg10 c8_i32
  let v746 : BitVec 32 := Scalar.addi v720 c0_i32_432
  let v747 : Index := Scalar.indexCast v746
  let c80 : Index := 80#32
  ![v747.toNat, 80]
def k0_off58 (k0_t7 : Fin k0_t7_loop.trips) (c0_i32_433 : BitVec 32) : Fin 2 → Nat :=
  let c0_i32_282 : BitVec 32 := 0#32
  let c1_i32_284 : BitVec 32 := 1#32
  let arg10 : BitVec 32 := Scf.iv c0_i32_282 c1_i32_284 k0_t7
  let c8_i32 : BitVec 32 := 8#32
  let v720 : BitVec 32 := Scalar.muli arg10 c8_i32
  let v751 : BitVec 32 := Scalar.addi v720 c0_i32_433
  let v752 : Index := Scalar.indexCast v751
  let c96 : Index := 96#32
  ![v752.toNat, 96]
def k0_off59 (k0_t7 : Fin k0_t7_loop.trips) (c0_i32_434 : BitVec 32) : Fin 2 → Nat :=
  let c0_i32_282 : BitVec 32 := 0#32
  let c1_i32_284 : BitVec 32 := 1#32
  let arg10 : BitVec 32 := Scf.iv c0_i32_282 c1_i32_284 k0_t7
  let c8_i32 : BitVec 32 := 8#32
  let v720 : BitVec 32 := Scalar.muli arg10 c8_i32
  let v756 : BitVec 32 := Scalar.addi v720 c0_i32_434
  let v757 : Index := Scalar.indexCast v756
  let c112 : Index := 112#32
  ![v757.toNat, 112]
@[reducible] def k0_t8_loop : Scf.Loop 32 :=
  let c0_i32_318 : BitVec 32 := 0#32
  let c32_i32_319 : BitVec 32 := 32#32
  let v610 : BitVec 32 := Scalar.addi c0_i32_318 c32_i32_319
  let c1_i32_320 : BitVec 32 := 1#32
  ⟨c0_i32_318, v610, c1_i32_320⟩
def k0_off60 (k0_t8 : Fin k0_t8_loop.trips) (c0_i32_427 : BitVec 32) : Fin 2 → Nat :=
  let c0_i32_318 : BitVec 32 := 0#32
  let c1_i32_320 : BitVec 32 := 1#32
  let arg10 : BitVec 32 := Scf.iv c0_i32_318 c1_i32_320 k0_t8
  let c8_i32 : BitVec 32 := 8#32
  let v720 : BitVec 32 := Scalar.muli arg10 c8_i32
  let v721 : BitVec 32 := Scalar.addi v720 c0_i32_427
  let v722 : Index := Scalar.indexCast v721
  let c0 : Index := 0#32
  ![v722.toNat, 0]
def k0_off61 (k0_t8 : Fin k0_t8_loop.trips) (c0_i32_428 : BitVec 32) : Fin 2 → Nat :=
  let c0_i32_318 : BitVec 32 := 0#32
  let c1_i32_320 : BitVec 32 := 1#32
  let arg10 : BitVec 32 := Scf.iv c0_i32_318 c1_i32_320 k0_t8
  let c8_i32 : BitVec 32 := 8#32
  let v720 : BitVec 32 := Scalar.muli arg10 c8_i32
  let v726 : BitVec 32 := Scalar.addi v720 c0_i32_428
  let v727 : Index := Scalar.indexCast v726
  let c16 : Index := 16#32
  ![v727.toNat, 16]
def k0_off62 (k0_t8 : Fin k0_t8_loop.trips) (c0_i32_429 : BitVec 32) : Fin 2 → Nat :=
  let c0_i32_318 : BitVec 32 := 0#32
  let c1_i32_320 : BitVec 32 := 1#32
  let arg10 : BitVec 32 := Scf.iv c0_i32_318 c1_i32_320 k0_t8
  let c8_i32 : BitVec 32 := 8#32
  let v720 : BitVec 32 := Scalar.muli arg10 c8_i32
  let v731 : BitVec 32 := Scalar.addi v720 c0_i32_429
  let v732 : Index := Scalar.indexCast v731
  let c32 : Index := 32#32
  ![v732.toNat, 32]
def k0_off63 (k0_t8 : Fin k0_t8_loop.trips) (c0_i32_430 : BitVec 32) : Fin 2 → Nat :=
  let c0_i32_318 : BitVec 32 := 0#32
  let c1_i32_320 : BitVec 32 := 1#32
  let arg10 : BitVec 32 := Scf.iv c0_i32_318 c1_i32_320 k0_t8
  let c8_i32 : BitVec 32 := 8#32
  let v720 : BitVec 32 := Scalar.muli arg10 c8_i32
  let v736 : BitVec 32 := Scalar.addi v720 c0_i32_430
  let v737 : Index := Scalar.indexCast v736
  let c48 : Index := 48#32
  ![v737.toNat, 48]
def k0_off64 (k0_t8 : Fin k0_t8_loop.trips) (c0_i32_431 : BitVec 32) : Fin 2 → Nat :=
  let c0_i32_318 : BitVec 32 := 0#32
  let c1_i32_320 : BitVec 32 := 1#32
  let arg10 : BitVec 32 := Scf.iv c0_i32_318 c1_i32_320 k0_t8
  let c8_i32 : BitVec 32 := 8#32
  let v720 : BitVec 32 := Scalar.muli arg10 c8_i32
  let v741 : BitVec 32 := Scalar.addi v720 c0_i32_431
  let v742 : Index := Scalar.indexCast v741
  let c64 : Index := 64#32
  ![v742.toNat, 64]
def k0_off65 (k0_t8 : Fin k0_t8_loop.trips) (c0_i32_432 : BitVec 32) : Fin 2 → Nat :=
  let c0_i32_318 : BitVec 32 := 0#32
  let c1_i32_320 : BitVec 32 := 1#32
  let arg10 : BitVec 32 := Scf.iv c0_i32_318 c1_i32_320 k0_t8
  let c8_i32 : BitVec 32 := 8#32
  let v720 : BitVec 32 := Scalar.muli arg10 c8_i32
  let v746 : BitVec 32 := Scalar.addi v720 c0_i32_432
  let v747 : Index := Scalar.indexCast v746
  let c80 : Index := 80#32
  ![v747.toNat, 80]
def k0_off66 (k0_t8 : Fin k0_t8_loop.trips) (c0_i32_433 : BitVec 32) : Fin 2 → Nat :=
  let c0_i32_318 : BitVec 32 := 0#32
  let c1_i32_320 : BitVec 32 := 1#32
  let arg10 : BitVec 32 := Scf.iv c0_i32_318 c1_i32_320 k0_t8
  let c8_i32 : BitVec 32 := 8#32
  let v720 : BitVec 32 := Scalar.muli arg10 c8_i32
  let v751 : BitVec 32 := Scalar.addi v720 c0_i32_433
  let v752 : Index := Scalar.indexCast v751
  let c96 : Index := 96#32
  ![v752.toNat, 96]
def k0_off67 (k0_t8 : Fin k0_t8_loop.trips) (c0_i32_434 : BitVec 32) : Fin 2 → Nat :=
  let c0_i32_318 : BitVec 32 := 0#32
  let c1_i32_320 : BitVec 32 := 1#32
  let arg10 : BitVec 32 := Scf.iv c0_i32_318 c1_i32_320 k0_t8
  let c8_i32 : BitVec 32 := 8#32
  let v720 : BitVec 32 := Scalar.muli arg10 c8_i32
  let v756 : BitVec 32 := Scalar.addi v720 c0_i32_434
  let v757 : Index := Scalar.indexCast v756
  let c112 : Index := 112#32
  ![v757.toNat, 112]
@[reducible] def k0_t9_loop : Scf.Loop 32 :=
  let c0_i32_338 : BitVec 32 := 0#32
  let c32_i32_339 : BitVec 32 := 32#32
  let v644 : BitVec 32 := Scalar.addi c0_i32_338 c32_i32_339
  let c1_i32_340 : BitVec 32 := 1#32
  ⟨c0_i32_338, v644, c1_i32_340⟩
def k0_off68 (k0_t9 : Fin k0_t9_loop.trips) (c0_i32_427 : BitVec 32) : Fin 2 → Nat :=
  let c0_i32_338 : BitVec 32 := 0#32
  let c1_i32_340 : BitVec 32 := 1#32
  let arg10 : BitVec 32 := Scf.iv c0_i32_338 c1_i32_340 k0_t9
  let c8_i32 : BitVec 32 := 8#32
  let v720 : BitVec 32 := Scalar.muli arg10 c8_i32
  let v721 : BitVec 32 := Scalar.addi v720 c0_i32_427
  let v722 : Index := Scalar.indexCast v721
  let c0 : Index := 0#32
  ![v722.toNat, 0]
def k0_off69 (k0_t9 : Fin k0_t9_loop.trips) (c0_i32_428 : BitVec 32) : Fin 2 → Nat :=
  let c0_i32_338 : BitVec 32 := 0#32
  let c1_i32_340 : BitVec 32 := 1#32
  let arg10 : BitVec 32 := Scf.iv c0_i32_338 c1_i32_340 k0_t9
  let c8_i32 : BitVec 32 := 8#32
  let v720 : BitVec 32 := Scalar.muli arg10 c8_i32
  let v726 : BitVec 32 := Scalar.addi v720 c0_i32_428
  let v727 : Index := Scalar.indexCast v726
  let c16 : Index := 16#32
  ![v727.toNat, 16]
def k0_off70 (k0_t9 : Fin k0_t9_loop.trips) (c0_i32_429 : BitVec 32) : Fin 2 → Nat :=
  let c0_i32_338 : BitVec 32 := 0#32
  let c1_i32_340 : BitVec 32 := 1#32
  let arg10 : BitVec 32 := Scf.iv c0_i32_338 c1_i32_340 k0_t9
  let c8_i32 : BitVec 32 := 8#32
  let v720 : BitVec 32 := Scalar.muli arg10 c8_i32
  let v731 : BitVec 32 := Scalar.addi v720 c0_i32_429
  let v732 : Index := Scalar.indexCast v731
  let c32 : Index := 32#32
  ![v732.toNat, 32]
def k0_off71 (k0_t9 : Fin k0_t9_loop.trips) (c0_i32_430 : BitVec 32) : Fin 2 → Nat :=
  let c0_i32_338 : BitVec 32 := 0#32
  let c1_i32_340 : BitVec 32 := 1#32
  let arg10 : BitVec 32 := Scf.iv c0_i32_338 c1_i32_340 k0_t9
  let c8_i32 : BitVec 32 := 8#32
  let v720 : BitVec 32 := Scalar.muli arg10 c8_i32
  let v736 : BitVec 32 := Scalar.addi v720 c0_i32_430
  let v737 : Index := Scalar.indexCast v736
  let c48 : Index := 48#32
  ![v737.toNat, 48]
def k0_off72 (k0_t9 : Fin k0_t9_loop.trips) (c0_i32_431 : BitVec 32) : Fin 2 → Nat :=
  let c0_i32_338 : BitVec 32 := 0#32
  let c1_i32_340 : BitVec 32 := 1#32
  let arg10 : BitVec 32 := Scf.iv c0_i32_338 c1_i32_340 k0_t9
  let c8_i32 : BitVec 32 := 8#32
  let v720 : BitVec 32 := Scalar.muli arg10 c8_i32
  let v741 : BitVec 32 := Scalar.addi v720 c0_i32_431
  let v742 : Index := Scalar.indexCast v741
  let c64 : Index := 64#32
  ![v742.toNat, 64]
def k0_off73 (k0_t9 : Fin k0_t9_loop.trips) (c0_i32_432 : BitVec 32) : Fin 2 → Nat :=
  let c0_i32_338 : BitVec 32 := 0#32
  let c1_i32_340 : BitVec 32 := 1#32
  let arg10 : BitVec 32 := Scf.iv c0_i32_338 c1_i32_340 k0_t9
  let c8_i32 : BitVec 32 := 8#32
  let v720 : BitVec 32 := Scalar.muli arg10 c8_i32
  let v746 : BitVec 32 := Scalar.addi v720 c0_i32_432
  let v747 : Index := Scalar.indexCast v746
  let c80 : Index := 80#32
  ![v747.toNat, 80]
def k0_off74 (k0_t9 : Fin k0_t9_loop.trips) (c0_i32_433 : BitVec 32) : Fin 2 → Nat :=
  let c0_i32_338 : BitVec 32 := 0#32
  let c1_i32_340 : BitVec 32 := 1#32
  let arg10 : BitVec 32 := Scf.iv c0_i32_338 c1_i32_340 k0_t9
  let c8_i32 : BitVec 32 := 8#32
  let v720 : BitVec 32 := Scalar.muli arg10 c8_i32
  let v751 : BitVec 32 := Scalar.addi v720 c0_i32_433
  let v752 : Index := Scalar.indexCast v751
  let c96 : Index := 96#32
  ![v752.toNat, 96]
def k0_off75 (k0_t9 : Fin k0_t9_loop.trips) (c0_i32_434 : BitVec 32) : Fin 2 → Nat :=
  let c0_i32_338 : BitVec 32 := 0#32
  let c1_i32_340 : BitVec 32 := 1#32
  let arg10 : BitVec 32 := Scf.iv c0_i32_338 c1_i32_340 k0_t9
  let c8_i32 : BitVec 32 := 8#32
  let v720 : BitVec 32 := Scalar.muli arg10 c8_i32
  let v756 : BitVec 32 := Scalar.addi v720 c0_i32_434
  let v757 : Index := Scalar.indexCast v756
  let c112 : Index := 112#32
  ![v757.toNat, 112]
@[reducible] def k0_t10_loop : Scf.Loop 32 :=
  let c0_i32_343 : BitVec 32 := 0#32
  let c128_i32_344 : BitVec 32 := 128#32
  let v654 : BitVec 32 := Scalar.addi c0_i32_343 c128_i32_344
  let c1_i32_345 : BitVec 32 := 1#32
  ⟨c0_i32_343, v654, c1_i32_345⟩
def k0_off76 (k0_t10 : Fin k0_t10_loop.trips) : Fin 2 → Nat :=
  let c0_i32_343 : BitVec 32 := 0#32
  let c1_i32_345 : BitVec 32 := 1#32
  let arg10 : BitVec 32 := Scf.iv c0_i32_343 c1_i32_345 k0_t10
  let v720 : Index := Scalar.indexCast arg10
  let c0 : Index := 0#32
  ![v720.toNat, 0]
def k0_off77 (k0_t10 : Fin k0_t10_loop.trips) : Fin 2 → Nat :=
  let c0_i32_343 : BitVec 32 := 0#32
  let c1_i32_345 : BitVec 32 := 1#32
  let arg10 : BitVec 32 := Scf.iv c0_i32_343 c1_i32_345 k0_t10
  let v724 : Index := Scalar.indexCast arg10
  let c16 : Index := 16#32
  ![v724.toNat, 16]
def k0_off78 (k0_t10 : Fin k0_t10_loop.trips) : Fin 2 → Nat :=
  let c0_i32_343 : BitVec 32 := 0#32
  let c1_i32_345 : BitVec 32 := 1#32
  let arg10 : BitVec 32 := Scf.iv c0_i32_343 c1_i32_345 k0_t10
  let v728 : Index := Scalar.indexCast arg10
  let c32 : Index := 32#32
  ![v728.toNat, 32]
def k0_off79 (k0_t10 : Fin k0_t10_loop.trips) : Fin 2 → Nat :=
  let c0_i32_343 : BitVec 32 := 0#32
  let c1_i32_345 : BitVec 32 := 1#32
  let arg10 : BitVec 32 := Scf.iv c0_i32_343 c1_i32_345 k0_t10
  let v732 : Index := Scalar.indexCast arg10
  let c48 : Index := 48#32
  ![v732.toNat, 48]
def k0_off80 (k0_t10 : Fin k0_t10_loop.trips) : Fin 2 → Nat :=
  let c0_i32_343 : BitVec 32 := 0#32
  let c1_i32_345 : BitVec 32 := 1#32
  let arg10 : BitVec 32 := Scf.iv c0_i32_343 c1_i32_345 k0_t10
  let v736 : Index := Scalar.indexCast arg10
  let c64 : Index := 64#32
  ![v736.toNat, 64]
def k0_off81 (k0_t10 : Fin k0_t10_loop.trips) : Fin 2 → Nat :=
  let c0_i32_343 : BitVec 32 := 0#32
  let c1_i32_345 : BitVec 32 := 1#32
  let arg10 : BitVec 32 := Scf.iv c0_i32_343 c1_i32_345 k0_t10
  let v740 : Index := Scalar.indexCast arg10
  let c80 : Index := 80#32
  ![v740.toNat, 80]
def k0_off82 (k0_t10 : Fin k0_t10_loop.trips) : Fin 2 → Nat :=
  let c0_i32_343 : BitVec 32 := 0#32
  let c1_i32_345 : BitVec 32 := 1#32
  let arg10 : BitVec 32 := Scf.iv c0_i32_343 c1_i32_345 k0_t10
  let v744 : Index := Scalar.indexCast arg10
  let c96 : Index := 96#32
  ![v744.toNat, 96]
def k0_off83 (k0_t10 : Fin k0_t10_loop.trips) : Fin 2 → Nat :=
  let c0_i32_343 : BitVec 32 := 0#32
  let c1_i32_345 : BitVec 32 := 1#32
  let arg10 : BitVec 32 := Scf.iv c0_i32_343 c1_i32_345 k0_t10
  let v748 : Index := Scalar.indexCast arg10
  let c112 : Index := 112#32
  ![v748.toNat, 112]
def k0_off84 (i : grid0.Coords) (c0_i32_348 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v3 : BitVec 32 := Scalar.addi v1 c32_i32
  let c0_i32_193 : BitVec 32 := 0#32
  let v379 : BitVec 1 := Scalar.cmpi .sgt v3 c0_i32_193
  let v380 : BitVec 32 := Scalar.extui v379
  let c0_i32_194 : BitVec 32 := 0#32
  let v381 : BitVec 1 := Scalar.cmpi .slt v3 c0_i32_194
  let v382 : BitVec 32 := Scalar.extui v381
  let v383 : BitVec 32 := Scalar.subi v380 v382
  let c4_i32_192 : BitVec 32 := 4#32
  let c0_i32_195 : BitVec 32 := 0#32
  let v384 : BitVec 1 := Scalar.cmpi .sgt c4_i32_192 c0_i32_195
  let v385 : BitVec 32 := Scalar.extui v384
  let c0_i32_196 : BitVec 32 := 0#32
  let v386 : BitVec 1 := Scalar.cmpi .slt c4_i32_192 c0_i32_196
  let v387 : BitVec 32 := Scalar.extui v386
  let v388 : BitVec 32 := Scalar.subi v385 v387
  let v389 : BitVec 1 := Scalar.cmpi .ne v383 v388
  let v390 : BitVec 32 := Scalar.remsi v3 c4_i32_192
  let c0_i32_197 : BitVec 32 := 0#32
  let v391 : BitVec 1 := Scalar.cmpi .ne v390 c0_i32_197
  let v392 : BitVec 1 := Scalar.andi v389 v391
  let v378 : BitVec 32 := Scalar.divsi v3 c4_i32_192
  let c1_i32_198 : BitVec 32 := 1#32
  let v393 : BitVec 32 := Scalar.subi v378 c1_i32_198
  let v394 : BitVec 32 := Scalar.select v392 v393 v378
  let c1024_i32_347 : BitVec 32 := 1024#32
  let v656 : BitVec 32 := Scalar.muli v394 c1024_i32_347
  let v657 : BitVec 32 := Scalar.addi v656 c0_i32_348
  let c4_i32_199 : BitVec 32 := 4#32
  let c0_i32_200 : BitVec 32 := 0#32
  let v395 : BitVec 1 := Scalar.cmpi .eq c4_i32_199 c0_i32_200
  let c1_i32_201 : BitVec 32 := 1#32
  let v396 : BitVec 32 := Scalar.select v395 c1_i32_201 c4_i32_199
  let v397 : BitVec 32 := Scalar.remsi v3 v396
  let c0_i32_203 : BitVec 32 := 0#32
  let v399 : BitVec 1 := Scalar.cmpi .slt v397 c0_i32_203
  let c0_i32_204 : BitVec 32 := 0#32
  let v400 : BitVec 1 := Scalar.cmpi .slt v396 c0_i32_204
  let v401 : BitVec 1 := Scalar.xori v399 v400
  let c0_i32_202 : BitVec 32 := 0#32
  let v398 : BitVec 1 := Scalar.cmpi .ne v397 c0_i32_202
  let v402 : BitVec 1 := Scalar.andi v401 v398
  let v403 : BitVec 32 := Scalar.addi v397 v396
  let v404 : BitVec 32 := Scalar.select v402 v403 v397
  let c128_i32_205 : BitVec 32 := 128#32
  let v405 : BitVec 32 := Scalar.muli v404 c128_i32_205
  ![v657.toNat, v405.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x512 : Shape := ⟨2, ![16384, 512]⟩
abbrev S1024x512 : Shape := ⟨2, ![1024, 512]⟩
abbrev S_ : Shape := ⟨0, ![]⟩
abbrev S512 : Shape := ⟨1, ![512]⟩

abbrev nBuf : Space → Nat
  | .hbm => 114
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S1024x512, .f32⟩
  | .hbm, ⟨15, _⟩ => ⟨S1024x512, .f32⟩
  | .hbm, ⟨16, _⟩ => ⟨S_, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S512, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S512, .f32⟩
  | .hbm, ⟨39, _⟩ => ⟨S_, .f32⟩
  | .hbm, ⟨40, _⟩ => ⟨S512, .f32⟩
  | .hbm, ⟨41, _⟩ => ⟨S512, .f32⟩
  | .hbm, ⟨42, _⟩ => ⟨S1024x512, .f32⟩
  | .hbm, ⟨43, _⟩ => ⟨S1024x512, .f32⟩
  | .hbm, ⟨44, _⟩ => ⟨S_, .f32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S1024x512, .f32⟩
  | .hbm, ⟨50, _⟩ => ⟨S1024x512, .f32⟩
  | .hbm, ⟨51, _⟩ => ⟨S_, .f32⟩
  | .hbm, ⟨52, _⟩ => ⟨S512, .f32⟩
  | .hbm, ⟨53, _⟩ => ⟨S_, .f32⟩
  | .hbm, ⟨54, _⟩ => ⟨S512, .f32⟩
  | .hbm, ⟨55, _⟩ => ⟨S512, .f32⟩
  | .hbm, ⟨56, _⟩ => ⟨S1024x512, .f32⟩
  | .hbm, ⟨57, _⟩ => ⟨S1024x512, .f32⟩
  | .hbm, ⟨58, _⟩ => ⟨S_, .f32⟩
  | .hbm, ⟨59, _⟩ => ⟨S512, .f32⟩
  | .hbm, ⟨60, _⟩ => ⟨S_, .f32⟩
  | .hbm, ⟨61, _⟩ => ⟨S512, .f32⟩
  | .hbm, ⟨62, _⟩ => ⟨S512, .f32⟩
  | .hbm, ⟨63, _⟩ => ⟨S1024x512, .f32⟩
  | .hbm, ⟨64, _⟩ => ⟨S1024x512, .f32⟩
  | .hbm, ⟨65, _⟩ => ⟨S_, .f32⟩
  | .hbm, ⟨66, _⟩ => ⟨S512, .f32⟩
  | .hbm, ⟨67, _⟩ => ⟨S_, .f32⟩
  | .hbm, ⟨68, _⟩ => ⟨S512, .f32⟩
  | .hbm, ⟨69, _⟩ => ⟨S512, .f32⟩
  | .hbm, ⟨70, _⟩ => ⟨S1024x512, .f32⟩
  | .hbm, ⟨71, _⟩ => ⟨S1024x512, .f32⟩
  | .hbm, ⟨72, _⟩ => ⟨S_, .f32⟩
  | .hbm, ⟨73, _⟩ => ⟨S512, .f32⟩
  | .hbm, ⟨74, _⟩ => ⟨S_, .f32⟩
  | .hbm, ⟨75, _⟩ => ⟨S512, .f32⟩
  | .hbm, ⟨76, _⟩ => ⟨S512, .f32⟩
  | .hbm, ⟨77, _⟩ => ⟨S1024x512, .f32⟩
  | .hbm, ⟨78, _⟩ => ⟨S1024x512, .f32⟩
  | .hbm, ⟨79, _⟩ => ⟨S_, .f32⟩
  | .hbm, ⟨80, _⟩ => ⟨S512, .f32⟩
  | .hbm, ⟨81, _⟩ => ⟨S_, .f32⟩
  | .hbm, ⟨82, _⟩ => ⟨S512, .f32⟩
  | .hbm, ⟨83, _⟩ => ⟨S512, .f32⟩
  | .hbm, ⟨84, _⟩ => ⟨S1024x512, .f32⟩
  | .hbm, ⟨85, _⟩ => ⟨S1024x512, .f32⟩
  | .hbm, ⟨86, _⟩ => ⟨S_, .f32⟩
  | .hbm, ⟨87, _⟩ => ⟨S512, .f32⟩
  | .hbm, ⟨88, _⟩ => ⟨S_, .f32⟩
  | .hbm, ⟨89, _⟩ => ⟨S512, .f32⟩
  | .hbm, ⟨90, _⟩ => ⟨S512, .f32⟩
  | .hbm, ⟨91, _⟩ => ⟨S1024x512, .f32⟩
  | .hbm, ⟨92, _⟩ => ⟨S1024x512, .f32⟩
  | .hbm, ⟨93, _⟩ => ⟨S_, .f32⟩
  | .hbm, ⟨94, _⟩ => ⟨S512, .f32⟩
  | .hbm, ⟨95, _⟩ => ⟨S_, .f32⟩
  | .hbm, ⟨96, _⟩ => ⟨S512, .f32⟩
  | .hbm, ⟨97, _⟩ => ⟨S512, .f32⟩
  | .hbm, ⟨98, _⟩ => ⟨S1024x512, .f32⟩
  | .hbm, ⟨99, _⟩ => ⟨S1024x512, .f32⟩
  | .hbm, ⟨100, _⟩ => ⟨S_, .f32⟩
  | .hbm, ⟨101, _⟩ => ⟨S512, .f32⟩
  | .hbm, ⟨102, _⟩ => ⟨S_, .f32⟩
  | .hbm, ⟨103, _⟩ => ⟨S512, .f32⟩
  | .hbm, ⟨104, _⟩ => ⟨S512, .f32⟩
  | .hbm, ⟨105, _⟩ => ⟨S1024x512, .f32⟩
  | .hbm, ⟨106, _⟩ => ⟨S1024x512, .f32⟩
  | .hbm, ⟨107, _⟩ => ⟨S_, .f32⟩
  | .hbm, ⟨108, _⟩ => ⟨S512, .f32⟩
  | .hbm, ⟨109, _⟩ => ⟨S_, .f32⟩
  | .hbm, ⟨110, _⟩ => ⟨S512, .f32⟩
  | .hbm, ⟨111, _⟩ => ⟨S512, .f32⟩
  | .hbm, ⟨112, _⟩ => ⟨S1024x512, .f32⟩
  | .hbm, ⟨113, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_v16 : Ref sig .tc := ⟨.hbm, 24, rfl⟩
abbrev main_cst_6 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_7 : Ref sig .tc := ⟨.hbm, 30, rfl⟩
abbrev main_v21 : Ref sig .tc := ⟨.hbm, 31, rfl⟩
abbrev main_cst_8 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_9 : Ref sig .tc := ⟨.hbm, 37, rfl⟩
abbrev main_v26 : Ref sig .tc := ⟨.hbm, 38, rfl⟩
abbrev main_cst_10 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_11 : Ref sig .tc := ⟨.hbm, 44, rfl⟩
abbrev main_v31 : Ref sig .tc := ⟨.hbm, 45, rfl⟩
abbrev main_cst_12 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_13 : Ref sig .tc := ⟨.hbm, 51, rfl⟩
abbrev main_v36 : Ref sig .tc := ⟨.hbm, 52, rfl⟩
abbrev main_cst_14 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_15 : Ref sig .tc := ⟨.hbm, 58, rfl⟩
abbrev main_v41 : Ref sig .tc := ⟨.hbm, 59, rfl⟩
abbrev main_cst_16 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_17 : Ref sig .tc := ⟨.hbm, 65, rfl⟩
abbrev main_v46 : Ref sig .tc := ⟨.hbm, 66, rfl⟩
abbrev main_cst_18 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_19 : Ref sig .tc := ⟨.hbm, 72, rfl⟩
abbrev main_v51 : Ref sig .tc := ⟨.hbm, 73, rfl⟩
abbrev main_cst_20 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_21 : Ref sig .tc := ⟨.hbm, 79, rfl⟩
abbrev main_v56 : Ref sig .tc := ⟨.hbm, 80, rfl⟩
abbrev main_cst_22 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_23 : Ref sig .tc := ⟨.hbm, 86, rfl⟩
abbrev main_v61 : Ref sig .tc := ⟨.hbm, 87, rfl⟩
abbrev main_cst_24 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_25 : Ref sig .tc := ⟨.hbm, 93, rfl⟩
abbrev main_v66 : Ref sig .tc := ⟨.hbm, 94, rfl⟩
abbrev main_cst_26 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_27 : Ref sig .tc := ⟨.hbm, 100, rfl⟩
abbrev main_v71 : Ref sig .tc := ⟨.hbm, 101, rfl⟩
abbrev main_cst_28 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_29 : Ref sig .tc := ⟨.hbm, 107, rfl⟩
abbrev main_v76 : Ref sig .tc := ⟨.hbm, 108, rfl⟩
abbrev main_cst_30 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]
-- ==== Proof.Reduce.lean ====
/-
  The reduction loops of the kernel's body: eight loops of 32 trips, each adding eight rows of a 256×128 buffer into
  eight 16-lane accumulators. One trip is run once, for the first loop over an arbitrary buffer; the seven other loops'
  regions are that one at another buffer, definitionally.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.Pipeline.Kit
public import Idealize.ShloMosaic.Lib.ValueIdx
public import Idealize.ShloMosaic.Lib.Pipeline.Value
public import Idealize.ShloMosaic.Lib.Tactic

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

abbrev UH : Type := URounds (GSem nD τ sig) ℕ
abbrev UU : Type := UH × Counters

local notation "𝕄" => MT nD τ sig (HIx 1) (Elt F) ℕ UU ℕ

abbrev 𝒱₀ : Variants := Variants.none

/-- Eight 16-lane accumulators: one row of 128 lanes. -/
abbrev Acc (F : FTy → Type) : Type :=
  FVec F S16 .f32 × FVec F S16 .f32 × FVec F S16 .f32 × FVec F S16 .f32 × FVec F S16 .f32 × FVec F S16 .f32 × FVec F S16 .f32 × FVec F S16 .f32

/-- Lanes `g … g+15` of a row of 128. -/
def lanes (h : Fin 128 → F .f32) (g : ℕ) : FVec F S16 .f32 := fun j => h (Fin.ofNat 128 (g + (j 0).val))

/-- The row of 128 lanes `h` as the eight accumulators hold it. -/
def pack (h : Fin 128 → F .f32) : Acc F :=
  (lanes h 0, lanes h 16, lanes h 32, lanes h 48, lanes h 64, lanes h 80, lanes h 96, lanes h 112)

/-- `a + u 0 + … + u (n-1)`, added from the left one at a time. -/
def sumUp (u : ℕ → F .f32) (a : F .f32) : ℕ → F .f32
  | 0 => a
  | n + 1 => FloatOps.addf (sumUp u a n) (u n)

/-- Column `c` of a 256×128 buffer's contents, by row number. -/
def col (X : Vec F S256x128 .f32) (c : Fin 128) (r : ℕ) : F .f32 := X (ix2 (Fin.ofNat 256 r) c)

/-- The row of lanes after the rows below `n` of `X` have been added to `h`. -/
def after (X : Vec F S256x128 .f32) (h : Fin 128 → F .f32) (n : ℕ) (c : Fin 128) : F .f32 := sumUp (col X c) (h c) n

/-- Eight vectors added to `b` from the left. -/
def chain (w : Fin 8 → FVec F S16 .f32) (b : FVec F S16 .f32) : FVec F S16 .f32 :=
  addf (addf (addf (addf (addf (addf (addf (addf b (w 0)) (w 1)) (w 2)) (w 3)) (w 4)) (w 5)) (w 6)) (w 7)

variable (L : grid0.Coords) (a2 : Memref sig .scVector .hbm S16384x512 .f32) (h2 : a2.IsWhole) (a3 : Memref sig .scVector .hbm S16384x512 .f32) (h3 : a3.IsWhole)
  (M : Memref sig .scVector .vmem S256x128 .f32) (hM : M.IsWhole) (M' : Memref sig .scVector .vmem S256x128 .f32) (hM' : M'.IsWhole)
  (o : Memref sig .scVector .vmem S128x128 .f32) (ho : o.IsWhole) (o' : Memref sig .scVector .vmem S128x128 .f32) (ho' : o'.IsWhole)
  (s8 s9 : DmaSems sig S_) (d : Dev nD)
  (w1 : BitVec 32) (y z1 z2 z3 z4 z5 z6 z7 z8 : FVec F S16 .f32) (w2 w3 w4 w5 w6 : BitVec 32)

abbrev thr (d : Dev nD) (L : grid0.Coords) : Thread nD τ := V d ((L 0).castLE hcore0) ((L 1).castLE hsub0)

/-- A load of 16 lanes of one row, cast to a vector, is those lanes of the contents. -/
theorem load_lanes (f : M.view.ty.Contents (Elt F)) {off : Fin 2 → ℕ} (hin : ∀ a, off a + S1x16.size a ≤ S256x128.size a)
    (r g : ℕ) (h : off = ![r, g]) :
    shapeCast S16 (M.view.readAt (Elt F) (Rect.unit (s := S256x128) off S1x16.size hin).toLoadRect f : Vec F S1x16 .f32) shapeCasts_S1x16_S16
      = fun j => col (M.view.read (Elt F) f) (Fin.ofNat 128 (g + (j 0).val)) r := by
  subst h
  have h0 : r + 1 ≤ 256 := hin 0
  have h1 : g + 16 ≤ 128 := hin 1
  funext j
  have hj : (j 0).val < 16 := (j 0).isLt
  refine (shapeCast_apply _ _ j (ix2 (0 : Fin 1) (j 0)) (by rw [Shape.rowMajor_val_two, Shape.rowMajor_val_one]; show 0 * 16 + (j 0).val = _; omega)).trans ?_
  show M.view.read (Elt F) f _ = M.view.read (Elt F) f _
  refine congrArg _ (funext fun a => Fin.ext ?_)
  match a with
  | ⟨0, _⟩ => show r + 1 * 0 = r % 256; omega
  | ⟨1, _⟩ => show g + 1 * (j 0).val = (g + (j 0).val) % 128; omega

/-- The eight rows of trip `k` added to the accumulator of lanes `g …`. -/
theorem chain_lanes (f : M.view.ty.Contents (Elt F)) (h : Fin 128 → F .f32) (k g : ℕ)
    {off : Fin 8 → Fin 2 → ℕ} (hin : ∀ r a, off r a + S1x16.size a ≤ S256x128.size a) (ho : ∀ r, off r = ![8 * k + r.val, g]) :
    chain (fun r => shapeCast S16 (M.view.readAt (Elt F) (Rect.unit (s := S256x128) (off r) S1x16.size (hin r)).toLoadRect f : Vec F S1x16 .f32) shapeCasts_S1x16_S16)
        (lanes (after (M.view.read (Elt F) f) h (8 * k)) g)
      = lanes (after (M.view.read (Elt F) f) h (8 * (k + 1))) g := by
  rw [show (fun r => shapeCast S16 (M.view.readAt (Elt F) (Rect.unit (s := S256x128) (off r) S1x16.size (hin r)).toLoadRect f : Vec F S1x16 .f32) shapeCasts_S1x16_S16)
      = fun r j => col (M.view.read (Elt F) f) (Fin.ofNat 128 (g + (j 0).val)) (8 * k + r.val) from funext fun r => load_lanes M f (hin r) _ _ (ho r)]
  rfl

/-- One trip of the first loop, over any buffer: its rows `8k … 8k+7` are added to the accumulators; the buffer is
    only read. -/
theorem red_trip (k : Fin k0_t1_loop.trips) (h : Fin 128 → F .f32) (f : Buf (Elt F) (M.view.loc (thr d L))) :
    (M.view.loc (thr d L) ↦[M.view.set]{fullShare} f : sProp 𝕄)
      ⊢ wp frame (wpE (defs₀ (F := F)) 𝒱₀ (thr d L) none) Set.univ
          (k0_t1_body L a2 h2 a3 h3 M hM M' hM' o ho o' ho' s8 s9 w1 z1 z2 z3 z4 z5 z6 z7 z8 w2 w3 w4 w5 w6 k
            (pack (after (M.view.read (Elt F) f) h (8 * k.val))))
          fun acc' => iprop(⌜acc' = pack (after (M.view.read (Elt F) f) h (8 * (k.val + 1)))⌝ ∗ M.view.loc (thr d L) ↦[M.view.set]{fullShare} f) := by
  unfold k0_t1_body
  iintro HM
  sl_exec
  sl_step
  isplitr
  · ipureintro
    unfold pack
    rw [← chain_lanes M f h k.val 0 (fun r => k0_off2_inb k r) (fun r => k0_off2_eq k r), ← chain_lanes M f h k.val 16 (fun r => k0_off3_inb k r) (fun r => k0_off3_eq k r),
      ← chain_lanes M f h k.val 32 (fun r => k0_off4_inb k r) (fun r => k0_off4_eq k r), ← chain_lanes M f h k.val 48 (fun r => k0_off5_inb k r) (fun r => k0_off5_eq k r),
      ← chain_lanes M f h k.val 64 (fun r => k0_off6_inb k r) (fun r => k0_off6_eq k r), ← chain_lanes M f h k.val 80 (fun r => k0_off7_inb k r) (fun r => k0_off7_eq k r),
      ← chain_lanes M f h k.val 96 (fun r => k0_off8_inb k r) (fun r => k0_off8_eq k r), ← chain_lanes M f h k.val 112 (fun r => k0_off9_inb k r) (fun r => k0_off9_eq k r)]
    rfl
  · iexact HM

/-! The other loops' regions are the first's, at the buffer they read; a region's locals do not matter. -/

/-- The kernel's loop 2, over a chunk's rows, has loop 1's body. -/
theorem t2_eq : k0_t2_body (F := F) L a2 h2 a3 h3 M hM M' hM' o ho o' ho' s8 s9 w1 z1 z2 z3 z4 z5 z6 z7 z8 w2 w3 w4 w5
    = k0_t1_body (F := F) L a2 h2 a3 h3 M' hM' M hM o ho o' ho' s8 s9 w1 z1 z2 z3 z4 z5 z6 z7 z8 w2 w3 w4 w5 w6 := rfl
/-- The kernel's loop 3, over a chunk's rows, has loop 1's body. -/
theorem t3_eq : k0_t3_body (F := F) L a2 h2 a3 h3 M hM M' hM' o ho o' ho' s8 s9 w1 w2 z1 z2 z3 z4 z5 z6 z7 z8
    = k0_t1_body (F := F) L a2 h2 a3 h3 M hM M' hM' o ho o' ho' s8 s9 w1 z1 z2 z3 z4 z5 z6 z7 z8 w2 w3 w4 w5 w6 := rfl
/-- The kernel's loop 4, over a chunk's rows, has loop 1's body. -/
theorem t4_eq : k0_t4_body (F := F) L a2 h2 a3 h3 M hM M' hM' o ho o' ho' s8 s9 y w1 z1 z2 z3 z4 z5 z6 z7 z8 w2 w3 w4
    = k0_t1_body (F := F) L a2 h2 a3 h3 M' hM' M hM o ho o' ho' s8 s9 w1 z1 z2 z3 z4 z5 z6 z7 z8 w2 w3 w4 w5 w6 := rfl
/-- The kernel's loop 6, over a chunk's rows, has loop 1's body. -/
theorem t6_eq : k0_t6_body (F := F) L a2 h2 a3 h3 M hM M' hM' o ho o' ho' s8 s9 w1 z1 z2 z3 z4 z5 z6 z7 z8 w2 w3 w4 w5
    = k0_t1_body (F := F) L a2 h2 a3 h3 M hM M' hM' o ho o' ho' s8 s9 w1 z1 z2 z3 z4 z5 z6 z7 z8 w2 w3 w4 w5 w6 := rfl
/-- The kernel's loop 7, over a chunk's rows, has loop 1's body. -/
theorem t7_eq : k0_t7_body (F := F) L a2 h2 a3 h3 M hM M' hM' o ho o' ho' s8 s9 w1 z1 z2 z3 z4 z5 z6 z7 z8 w2 w3 w4
    = k0_t1_body (F := F) L a2 h2 a3 h3 M' hM' M hM o ho o' ho' s8 s9 w1 z1 z2 z3 z4 z5 z6 z7 z8 w2 w3 w4 w5 w6 := rfl
/-- The kernel's loop 8, over a chunk's rows, has loop 1's body. -/
theorem t8_eq : k0_t8_body (F := F) L a2 h2 a3 h3 M hM M' hM' o ho o' ho' s8 s9 w1 z1 z2 z3 z4 z5 z6 z7 z8 w2
    = k0_t1_body (F := F) L a2 h2 a3 h3 M hM M' hM' o ho o' ho' s8 s9 w1 z1 z2 z3 z4 z5 z6 z7 z8 w2 w3 w4 w5 w6 := rfl
/-- The kernel's loop 9, over a chunk's rows, has loop 1's body. -/
theorem t9_eq : k0_t9_body (F := F) L a2 h2 a3 h3 M hM M' hM' o ho o' ho' s8 s9 y w1 z1 z2 z3 z4 z5 z6 z7 z8
    = k0_t1_body (F := F) L a2 h2 a3 h3 M' hM' M hM o ho o' ho' s8 s9 w1 z1 z2 z3 z4 z5 z6 z7 z8 w2 w3 w4 w5 w6 := rfl

/-- Eight stores of 16 lanes that make one whole row `k` of a 128×128 buffer: the row holds `Z`, the others what they held. -/
theorem row_written (f : o.view.ty.Contents (Elt F)) (Z : Fin 128 → F .f32) (k : ℕ) {off : Fin 8 → Fin 2 → ℕ}
    (hin : ∀ i a, off i a + S1x16.size a ≤ S128x128.size a) (h : ∀ i, off i = ![k, 16 * (7 - i.val)]) (y : S128x128.Idx) :
    o.view.read (Elt F) (o.view.writes (Elt F) f (List.ofFn fun i : Fin 8 =>
        ⟨Rect.unit (s := S128x128) (off i) S1x16.size (hin i), (shapeCast S1x16 (lanes Z (16 * (7 - i.val))) shapeCasts_S16_S1x16 : Vec F S1x16 .f32)⟩)) y
      = if (y 0).val = k then Z (y 1) else o.view.read (Elt F) f y := by
  have hy1 : (y 1).val < 128 := (y 1).isLt
  split
  · rename_i hk
    refine View.read_writes_apply_of_pieces o.view f (fun y => Z (y 1)) _ ?_ y ?_
    · intro p hp x
      obtain ⟨i, rfl⟩ := (List.mem_ofFn' _ _).mp hp
      have hx : (x 1).val < 16 := (x 1).isLt
      have hx0 : (x 0).val < 1 := (x 0).isLt
      have hi := i.isLt
      refine (shapeCast_apply (lanes Z (16 * (7 - i.val))) shapeCasts_S16_S1x16 x (fun (a : Fin 1) => match a with | ⟨0, _⟩ => (⟨(x 1).val, hx⟩ : Fin 16)) (by
        rw [Shape.rowMajor_val_two, Shape.rowMajor_val_one]; show (x 1).val = (x 0).val * 16 + (x 1).val; omega)).trans ?_
      refine congrArg Z (Fin.ext ?_)
      show (16 * (7 - i.val) + (x 1).val) % 128 = off i 1 + 1 * (x 1).val
      rw [h i]
      show _ = 16 * (7 - i.val) + 1 * (x 1).val
      omega
    · refine ⟨_, (List.mem_ofFn' _ _).mpr ⟨⟨7 - (y 1).val / 16, by omega⟩, rfl⟩, ?_⟩
      refine (LoadRect.mem_set _).mpr ?_
      intro a
      refine ⟨(y a).val - off ⟨7 - (y 1).val / 16, by omega⟩ a, ?_, ?_⟩ <;> rw [h]
      · match a with
        | ⟨0, _⟩ => show (y 0).val - k < 1; omega
        | ⟨1, _⟩ => show (y 1).val - 16 * (7 - (7 - (y 1).val / 16)) < 16; omega
      · match a with
        | ⟨0, _⟩ => show (y 0).val = off _ 0 + 1 * ((y 0).val - k); rw [h]; show _ = k + _; omega
        | ⟨1, _⟩ =>
          show (y 1).val = off _ 1 + 1 * ((y 1).val - 16 * (7 - (7 - (y 1).val / 16)))
          rw [h]; show _ = 16 * (7 - (7 - (y 1).val / 16)) + _; omega
  · rename_i hk
    refine View.read_writes_apply_of_forall_not_mem o.view f y _ fun p hp => ?_
    obtain ⟨i, rfl⟩ := (List.mem_ofFn' _ _).mp hp
    exact Rect.not_mem_set_of_axis _ y 0 k 1 (by show off i 0 = k; rw [h i]; rfl) rfl rfl (by omega)

/-- One trip of the first filling loop, over any 128×128 buffer: row `k` is filled with the eight vectors given. -/
theorem rep_trip (k : Fin k0_t5_loop.trips) (x : BitVec 32) (Z : Fin 128 → F .f32) (f : Buf (Elt F) (o.view.loc (thr d L))) :
    (o.view.loc (thr d L) ↦[o.view.set]{fullShare} f : sProp 𝕄)
      ⊢ wp frame (wpE (defs₀ (F := F)) 𝒱₀ (thr d L) none) Set.univ
          (k0_t5_body L a2 h2 a3 h3 M hM M' hM' o ho o' ho' s8 s9 w1 (lanes Z 0) (lanes Z 16) (lanes Z 32) (lanes Z 48) (lanes Z 64) (lanes Z 80) (lanes Z 96) (lanes Z 112) k x)
          fun _ => iprop(∃ f', ⌜∀ y : S128x128.Idx, o.view.read (Elt F) f' y = if (y 0).val = k.val then Z (y 1) else o.view.read (Elt F) f y⌝
            ∗ o.view.loc (thr d L) ↦[o.view.set]{fullShare} f') := by
  unfold k0_t5_body
  iintro HM
  sl_exec
  sl_step
  iexists _
  isplitr
  rotate_left
  · iexact HM
  · ipureintro
    exact row_written o f Z k.val
      (off := ![k0_off42 k, k0_off41 k, k0_off40 k, k0_off39 k, k0_off38 k, k0_off37 k, k0_off36 k, k0_off35 k])
      (fun i => match i with
        | ⟨0, _⟩ => k0_off42_inb k | ⟨1, _⟩ => k0_off41_inb k | ⟨2, _⟩ => k0_off40_inb k | ⟨3, _⟩ => k0_off39_inb k | ⟨4, _⟩ => k0_off38_inb k | ⟨5, _⟩ => k0_off37_inb k | ⟨6, _⟩ => k0_off36_inb k | ⟨7, _⟩ => k0_off35_inb k)
      (fun i => match i with
        | ⟨0, _⟩ => k0_off42_eq k | ⟨1, _⟩ => k0_off41_eq k | ⟨2, _⟩ => k0_off40_eq k | ⟨3, _⟩ => k0_off39_eq k | ⟨4, _⟩ => k0_off38_eq k | ⟨5, _⟩ => k0_off37_eq k | ⟨6, _⟩ => k0_off36_eq k | ⟨7, _⟩ => k0_off35_eq k)

/-- The second filling loop's region is the first's at the other buffer. -/
theorem t10_eq (u1 u2 u3 u4 u5 u6 u7 u8 : FVec F S16 .f32) : k0_t10_body (F := F) L a2 h2 a3 h3 M hM M' hM' o ho o' ho' s8 s9 y w1 u1 u2 u3 u4 u5 u6 u7 u8 z1 z2 z3 z4 z5 z6 z7 z8
    = k0_t5_body (F := F) L a2 h2 a3 h3 M hM M' hM' o' ho' o ho s8 s9 w1 (mulf z1 y) (mulf z2 y) (mulf z3 y) (mulf z4 y) (mulf z5 y) (mulf z6 y) (mulf z7 y) (mulf z8 y) := rfl

end Cert.Proof.Seg
-- ==== Proof.Body.lean ====
/-
  One tile's task, run once at a symbolic SparseCore and tile: two blocks of 1024 rows by 128 columns of `x`, each fetched
  in four chunks that are added up as they arrive, the mean row written out 1024 times by eight copies of a 128-row buffer.
  The sixteen copies out fly on one semaphore and are waited for at the end.
-/
module

public import proofs.«01_k».proof.Proof.Reduce
public import Idealize.ShloMosaic.Lib.Batch

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

local notation "𝕄" => MT nD τ sig (HIx 1) (Elt F) ℕ UU ℕ

/-! ## The buffers -/

abbrev xLoc (d : Dev nD) : Loc nD τ sig := ((d.tc : Thread nD τ)).loc main_arg0
abbrev oLoc (d : Dev nD) : Loc nD τ sig := ((d.tc : Thread nD τ)).loc main_v0

abbrev xA : Memref sig .scVector .hbm S16384x512 .f32 := Memref.whole main_arg0_scv
abbrev oA : Memref sig .scVector .hbm S16384x512 .f32 := Memref.whole main_v0_scv
abbrev b0 : Memref sig .scVector .vmem S256x128 .f32 := Memref.whole cc0_scratch0
abbrev b1 : Memref sig .scVector .vmem S256x128 .f32 := Memref.whole cc0_scratch1
abbrev r0 : Memref sig .scVector .vmem S128x128 .f32 := Memref.whole cc0_scratch2
abbrev r1 : Memref sig .scVector .vmem S128x128 .f32 := Memref.whole cc0_scratch3

/-- Chunk `r` of the first and of the second block of `x` the tile reads. -/
abbrev xS0 (L : grid0.Coords) (r : Fin 4) : Memref sig .scVector .hbm S256x128 .f32 :=
  xA.slice (Rect.unit (s := S16384x512) (k0_off1 L (BitVec.ofNat 32 (256 * r.val))) S256x128.size (k0_off1_inb L r)) (fun _ => rfl)
abbrev xS1 (L : grid0.Coords) (r : Fin 4) : Memref sig .scVector .hbm S256x128 .f32 :=
  xA.slice (Rect.unit (s := S16384x512) (k0_off26 L (BitVec.ofNat 32 (256 * r.val))) S256x128.size (k0_off26_inb L r)) (fun _ => rfl)
/-- Window `r` of the first and of the second block of the result the tile writes. -/
abbrev oS0 (L : grid0.Coords) (r : Fin 8) : Memref sig .scVector .hbm S128x128 .f32 :=
  oA.slice (Rect.unit (s := S16384x512) (k0_off43 L (BitVec.ofNat 32 (128 * r.val))) S128x128.size (k0_off43_inb L r)) (fun _ => rfl)
abbrev oS1 (L : grid0.Coords) (r : Fin 8) : Memref sig .scVector .hbm S128x128 .f32 :=
  oA.slice (Rect.unit (s := S16384x512) (k0_off84 L (BitVec.ofNat 32 (128 * r.val))) S128x128.size (k0_off84_inb L r)) (fun _ => rfl)

/-! ## The values -/

/-- The sums of the 128 columns of the first `n` chunks, added from zero, row by row. -/
def upTo (X : Fin 4 → Vec F S256x128 .f32) : ℕ → Fin 128 → F .f32
  | 0 => fun _ => Scalar.ofBits .f32 0#32
  | n + 1 => after (X (Fin.ofNat 4 n)) (upTo X n) 256
/-- The column means: the sums times 2⁻¹⁰. -/
def mean (X : Fin 4 → Vec F S256x128 .f32) (c : Fin 128) : F .f32 := FloatOps.mulf (upTo X 4 c) (Scalar.ofBits .f32 0x3A800000#32)
/-- A 128-row buffer every row of which is `Z`. -/
def rows (Z : Fin 128 → F .f32) : FVec F S128x128 .f32 := fun y => Z (y 1)

variable (m : (ℓ : Loc nD τ sig) → Buf (Elt F) ℓ) (d : Dev nD) (L : grid0.Coords)

def X0 (r : Fin 4) : Vec F S256x128 .f32 := (xS0 L r).view.read (Elt F) (m (xLoc d))
def X1 (r : Fin 4) : Vec F S256x128 .f32 := (xS1 L r).view.read (Elt F) (m (xLoc d))

/-! ## The loops' invariants -/

/-- Before trip `n` of a reduction: the rows below `8n` of the chunk `X` are in the accumulators, which began at `h`; the
    buffer holds `X`. -/
def redInv (M : Memref sig .scVector .vmem S256x128 .f32) (X : Vec F S256x128 .f32) (h : Fin 128 → F .f32) (n : ℕ) (acc : Acc F) : sProp 𝕄 :=
  iprop(⌜acc = pack (after X h (8 * n))⌝ ∗ ∃ f, ⌜M.view.read (Elt F) f = X⌝ ∗ M.view.loc (thr d L) ↦[M.view.set]{fullShare} f)

/-- Before trip `n` of a filling loop: the rows below `n` of the buffer are `Z`. -/
def repInv (o : Memref sig .scVector .vmem S128x128 .f32) (Z : Fin 128 → F .f32) (n : ℕ) (_ : BitVec 32) : sProp 𝕄 :=
  iprop(∃ f, ⌜∀ y : S128x128.Idx, (y 0).val < n → o.view.read (Elt F) f y = Z (y 1)⌝ ∗ o.view.loc (thr d L) ↦[o.view.set]{fullShare} f)

section Steps
variable (a2 : Memref sig .scVector .hbm S16384x512 .f32) (h2 : a2.IsWhole) (a3 : Memref sig .scVector .hbm S16384x512 .f32) (h3 : a3.IsWhole)
  (M : Memref sig .scVector .vmem S256x128 .f32) (hM : M.IsWhole) (M' : Memref sig .scVector .vmem S256x128 .f32) (hM' : M'.IsWhole)
  (o : Memref sig .scVector .vmem S128x128 .f32) (ho : o.IsWhole) (o' : Memref sig .scVector .vmem S128x128 .f32) (ho' : o'.IsWhole)
  (s8 s9 : DmaSems sig S_) (w1 : BitVec 32) (z1 z2 z3 z4 z5 z6 z7 z8 : FVec F S16 .f32) (w2 w3 w4 w5 w6 : BitVec 32)

/-- A trip of the first loop keeps the reduction's invariant. -/
theorem red_step (X : Vec F S256x128 .f32) (h : Fin 128 → F .f32) (k : Fin k0_t1_loop.trips) (acc : Acc F) :
    redInv d L M X h k.val acc
      ⊢ wp frame (wpE (defs₀ (F := F)) 𝒱₀ (thr d L) none) Set.univ
          (k0_t1_body L a2 h2 a3 h3 M hM M' hM' o ho o' ho' s8 s9 w1 z1 z2 z3 z4 z5 z6 z7 z8 w2 w3 w4 w5 w6 k acc)
          fun acc' => redInv d L M X h (k.val + 1) acc' := by
  unfold redInv
  iintro ⟨%hacc, %f, %hf, HM⟩
  subst hacc; subst hf
  iapply (wp_wand_r Idealize.ShloMosaic.frame (wpE (defs₀ (F := F)) 𝒱₀ (thr d L) none) Set.univ)
  isplitl [HM]
  · iapply (red_trip L a2 h2 a3 h3 M hM M' hM' o ho o' ho' s8 s9 d w1 z1 z2 z3 z4 z5 z6 z7 z8 w2 w3 w4 w5 w6 k h f) $$ HM
  · iintro %acc' ⟨%ha, HM⟩
    isplitr; · ipureintro; exact ha
    iexists f
    isplitr; · ipureintro; rfl
    iexact HM

/-- A trip of the filling loop keeps its invariant. -/
theorem rep_step (Z : Fin 128 → F .f32) (k : Fin k0_t5_loop.trips) (x : BitVec 32) :
    repInv d L o Z k.val x
      ⊢ wp frame (wpE (defs₀ (F := F)) 𝒱₀ (thr d L) none) Set.univ
          (k0_t5_body L a2 h2 a3 h3 M hM M' hM' o ho o' ho' s8 s9 w1 (lanes Z 0) (lanes Z 16) (lanes Z 32) (lanes Z 48) (lanes Z 64) (lanes Z 80) (lanes Z 96) (lanes Z 112) k x)
          fun x' => repInv d L o Z (k.val + 1) x' := by
  unfold repInv
  iintro ⟨%f, %hf, Ho⟩
  iapply (wp_wand_r Idealize.ShloMosaic.frame (wpE (defs₀ (F := F)) 𝒱₀ (thr d L) none) Set.univ)
  isplitl [Ho]
  · iapply (rep_trip L a2 h2 a3 h3 M hM M' hM' o ho o' ho' s8 s9 d w1 k x Z f) $$ Ho
  · iintro %x' ⟨%f', %hf', Ho⟩
    iexists f'
    isplitr
    · ipureintro
      intro y hy
      rw [hf' y]
      split
      · rfl
      · exact hf y (by omega)
    iexact Ho

variable {d L a2 h2 a3 h3 M hM M' hM' o ho o' ho' s8 s9 w1 z1 z2 z3 z4 z5 z6 z7 z8 w2 w3 w4 w5 w6}

/-- A loop whose region is the first loop's keeps the reduction's invariant. -/
theorem red_of {B : Fin k0_t1_loop.trips → Acc F → Prog (TpuEff nD τ sig (Elt F) Λ₀ (.scVector ((L 0).castLE hcore0) ((L 1).castLE hsub0))) (Acc F)}
    (hB : B = k0_t1_body (F := F) L a2 h2 a3 h3 M hM M' hM' o ho o' ho' s8 s9 w1 z1 z2 z3 z4 z5 z6 z7 z8 w2 w3 w4 w5 w6)
    (X : Vec F S256x128 .f32) (h : Fin 128 → F .f32) (k : Fin k0_t1_loop.trips) (acc : Acc F) :
    redInv d L M X h k.val acc
      ⊢ wp frame (wpE (defs₀ (F := F)) 𝒱₀ (thr d L) none) Set.univ (B k acc) fun acc' => redInv d L M X h (k.val + 1) acc' := by
  rw [hB]; exact red_step d L a2 h2 a3 h3 M hM M' hM' o ho o' ho' s8 s9 w1 z1 z2 z3 z4 z5 z6 z7 z8 w2 w3 w4 w5 w6 X h k acc

/-- A loop whose region is the filling loop's keeps its invariant. -/
theorem rep_of {B : Fin k0_t5_loop.trips → BitVec 32 → Prog (TpuEff nD τ sig (Elt F) Λ₀ (.scVector ((L 0).castLE hcore0) ((L 1).castLE hsub0))) (BitVec 32)}
    (Z : Fin 128 → F .f32)
    (hB : B = k0_t5_body (F := F) L a2 h2 a3 h3 M hM M' hM' o ho o' ho' s8 s9 w1 (lanes Z 0) (lanes Z 16) (lanes Z 32) (lanes Z 48) (lanes Z 64) (lanes Z 80) (lanes Z 96) (lanes Z 112))
    (k : Fin k0_t5_loop.trips) (x : BitVec 32) :
    repInv d L o Z k.val x
      ⊢ wp frame (wpE (defs₀ (F := F)) 𝒱₀ (thr d L) none) Set.univ (B k x) fun x' => repInv d L o Z (k.val + 1) x' := by
  rw [hB]; exact rep_step d L a2 h2 a3 h3 M hM M' hM' o ho o' ho' s8 s9 w1 Z k x
end Steps

/-- A reduction may start once its buffer holds the chunk. -/
theorem redInv_start (M : Memref sig .scVector .vmem S256x128 .f32) (f : Buf (Elt F) (M.view.loc (thr d L))) (X : Vec F S256x128 .f32) (h : Fin 128 → F .f32) (a : Acc F) (ha : a = pack h) :
    (M.view.loc (thr d L) ↦[M.view.set]{fullShare} M.view.writes (Elt F) f [⟨Rect.whole _, X⟩] : sProp 𝕄) ⊢ redInv d L M X h 0 a := by
  unfold redInv
  iintro H
  isplitr; · ipureintro; exact ha
  iexists (M.view.writes (Elt F) f [⟨Rect.whole _, X⟩])
  isplitr; · ipureintro; exact View.read_writes_whole M.view f X
  iexact H

/-- After its 32 trips a reduction has added the chunk's 256 rows. -/
theorem redInv_end (M : Memref sig .scVector .vmem S256x128 .f32) (X : Fin 4 → Vec F S256x128 .f32) (n : ℕ) (r : Fin 4) (hr : r = Fin.ofNat 4 n) (t : ℕ) (a : Acc F) (ht : t = 32) :
    redInv d L M (X r) (upTo X n) t a ⊢ iprop(⌜a = pack (upTo X (n + 1))⌝ ∗ ∃ f, M.view.loc (thr d L) ↦[M.view.set]{fullShare} f) := by
  subst ht hr
  unfold redInv
  iintro ⟨%ha, %f, -, H⟩
  isplitr; · ipureintro; exact ha
  iexists f; iexact H

/-- Before its first row is written, a buffer of means may hold anything. -/
theorem repInv_start (o : Memref sig .scVector .vmem S128x128 .f32) (f : Buf (Elt F) (o.view.loc (thr d L))) (Z : Fin 128 → F .f32) (x : BitVec 32) :
    (o.view.loc (thr d L) ↦[o.view.set]{fullShare} f : sProp 𝕄) ⊢ repInv d L o Z 0 x := by
  unfold repInv
  iintro H
  iexists f
  isplitr; · ipureintro; intro y hy; omega
  iexact H

/-- The read share of a buffer of means lent to copy `r`, and what the eight copies leave of it. -/
def lent (r : ℕ) (_ : Unit) : PosShare TreeShare := Transfers.shareTokN fullShare r
def kept (o : Memref sig .scVector .vmem S128x128 .f32) (G : Buf (Elt F) (o.view.loc (thr d L))) : sProp 𝕄 :=
  o.view.loc (thr d L) ↦[o.view.set]{Transfers.shareDrop fullShare 8} G

/-- After its 128 trips a filling loop has made every row of the buffer `Z`; a whole buffer, whose contents `G` are the
    only ones that read so, is split into eight read shares and the rest. -/
theorem repInv_end (o : Memref sig .scVector .vmem S128x128 .f32) (Z : Fin 128 → F .f32) (G : Buf (Elt F) (o.view.loc (thr d L)))
    (hG : ∀ f : Buf (Elt F) (o.view.loc (thr d L)), o.view.read (Elt F) f = rows Z → f = G) (t : ℕ) (x : BitVec 32) (ht : t = 128) :
    repInv d L o Z t x ⊢ iprop((bigSep Finset.univ fun r : Fin 8 => o.view.loc (thr d L) ↦[o.view.set]{lent r.val ()} G)
      ∗ kept d L o G) := by
  subst ht
  unfold repInv
  iintro ⟨%f, %hf, H⟩
  obtain rfl := hG f (funext fun y => hf y (y 0).isLt)
  exact (Transfers.pointsTo_toks_split fullShare 8).trans sep_comm.1

/-- A separating product over eight indices, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The run -/

/-- What the copies out hand back, in the order they are started: window `r` of the block's result written from the
    buffer of means, and the read share of the buffer the copy held. -/
def out0 (r : Fin 8) : sProp 𝕄 :=
  iprop(((oS0 L r).view.loc (thr d L) ↦[(oS0 L r).view.set]{fullShare}
      (oS0 L r).view.writes (Elt F) (m (oLoc d)) [⟨Rect.whole _, ReadAs.same.apply (r0.view.read (Elt F) (rows (mean (X0 m d L)) : Buf (Elt F) (r0.view.loc (thr d L))))⟩])
    ∗ r0.view.loc (thr d L) ↦[r0.view.set]{lent r.val ()} (rows (mean (X0 m d L)) : Buf (Elt F) (r0.view.loc (thr d L))))
def out1 (r : Fin 8) : sProp 𝕄 :=
  iprop(((oS1 L r).view.loc (thr d L) ↦[(oS1 L r).view.set]{fullShare}
      (oS1 L r).view.writes (Elt F) (m (oLoc d)) [⟨Rect.whole _, ReadAs.same.apply (r1.view.read (Elt F) (rows (mean (X1 m d L)) : Buf (Elt F) (r1.view.loc (thr d L))))⟩])
    ∗ r1.view.loc (thr d L) ↦[r1.view.set]{lent r.val ()} (rows (mean (X1 m d L)) : Buf (Elt F) (r1.view.loc (thr d L))))
def outs (t : Fin 16) : sProp 𝕄 := if h : t.val < 8 then out0 m d L ⟨t.val, h⟩ else out1 m d L ⟨t.val - 8, by omega⟩

instance outs_storable (t : Fin 16) : Storable (upEmb : UEmb _ 𝕄) (outs m d L t) := by
  unfold outs out0 out1; split <;> infer_instance

abbrev cIn (d : Dev nD) (L : grid0.Coords) : GSem nD τ sig := (thr d L, SemLoc.dma cc0_scratch4.sem)
abbrev cOut (d : Dev nD) (L : grid0.Coords) : GSem nD τ sig := (thr d L, SemLoc.dma cc0_scratch5.sem)

/-- One tile's run: from a read share of `x`, its two blocks of the result in eight windows each, its buffers and its two
semaphores at zero, it ends with the windows of both blocks holding the mean row of their block, and the rest given back. -/
theorem tile_run (q : PosShare TreeShare) (O : CellTallies nD τ sig (HIx 1)) (W : Waits sig (HIx 1)) (g0 g1 h0 h1) :
    iprop(Transfers.MayWaits (thr d L) none O
        ∗ (xA.view.loc (thr d L) ↦{q} m (xLoc d))
        ∗ (bigSep Finset.univ fun r => (oS0 L r).view.loc (thr d L) ↦[(oS0 L r).view.set]{fullShare} m (oLoc d))
        ∗ (bigSep Finset.univ fun r => (oS1 L r).view.loc (thr d L) ↦[(oS1 L r).view.set]{fullShare} m (oLoc d))
        ∗ (b0.view.loc (thr d L) ↦[b0.view.set]{fullShare} g0) ∗ (b1.view.loc (thr d L) ↦[b1.view.set]{fullShare} g1)
        ∗ (r0.view.loc (thr d L) ↦[r0.view.set]{fullShare} h0) ∗ (r1.view.loc (thr d L) ↦[r1.view.set]{fullShare} h1)
        ∗ semVal (cIn d L) 0 ∗ semVal (cOut d L) 0 ∗ owes (thr d L) O W)
      ⊢ wp frame (wpE (defs₀ (F := F)) 𝒱₀ (thr d L) none) Set.univ
          (cc0__body L xA (Memref.isWhole_whole _) oA (Memref.isWhole_whole _) b0 (Memref.isWhole_whole _) b1 (Memref.isWhole_whole _)
            r0 (Memref.isWhole_whole _) r1 (Memref.isWhole_whole _) cc0_scratch4 cc0_scratch5)
          fun _ => iprop((xA.view.loc (thr d L) ↦{q} m (xLoc d))
            ∗ (∃ f, b0.view.loc (thr d L) ↦[b0.view.set]{fullShare} f) ∗ (∃ f, b1.view.loc (thr d L) ↦[b1.view.set]{fullShare} f)
            ∗ (bigSep Finset.univ fun r => out0 m d L r) ∗ (bigSep Finset.univ fun r => out1 m d L r)
            ∗ kept d L r0 (rows (mean (X0 m d L)))
            ∗ kept d L r1 (rows (mean (X1 m d L)))
            ∗ semVal (cIn d L) 0 ∗ semVal (cOut d L) 0
            ∗ ∃ W', ⌜∀ p ∈ W', p ∈ W ∨ p.2 = none⌝ ∗ owes (thr d L) O W') := by
  rw [cc0__body_eq_skeleton]; unfold cc0__body_skel
  rw [k0_part57_eq_skeleton, k0_part58_eq_skeleton, k0_part59_eq_skeleton, k0_part60_eq_skeleton, k0_part61_eq_skeleton, k0_part62_eq_skeleton,
    k0_part63_eq_skeleton, k0_part64_eq_skeleton, k0_part65_eq_skeleton, k0_part66_eq_skeleton, k0_part67_eq_skeleton, k0_part68_eq_skeleton,
    k0_part69_eq_skeleton, k0_part70_eq_skeleton, k0_part71_eq_skeleton, k0_part72_eq_skeleton, k0_part73_eq_skeleton, k0_part74_eq_skeleton,
    k0_part75_eq_skeleton, k0_part76_eq_skeleton]
  unfold cIn cOut
  iintro ⟨#Hmw, Hx, Hos0, Hos1, Hb0, Hb1, Hr0, Hr1, Hin, Hout, HO⟩
  sl_exec
  -- the first block's four chunks
  sl_for (redInv d L b0 (X0 m d L 0) (upTo (X0 m d L) 0)) $$ [Hb0]
  case region => exact fun k acc => red_of rfl _ _ k acc
  · iapply (redInv_start d L b0) $$ Hb0; rfl
  iintro %acc HI
  icases (redInv_end d L b0 (X0 m d L) 0 0 rfl k0_t1_loop.trips acc rfl) $$ HI with ⟨%ha, %f0, Hb0⟩
  subst ha
  sl_exec
  sl_for (redInv d L b1 (X0 m d L 1) (upTo (X0 m d L) 1)) $$ [Hb1]
  case region => exact fun k acc => red_of (t2_eq (F := F) (w6 := 0#32) ..) _ _ k acc
  · iapply (redInv_start d L b1) $$ Hb1; rfl
  iintro %acc HI
  icases (redInv_end d L b1 (X0 m d L) 1 1 rfl k0_t2_loop.trips acc rfl) $$ HI with ⟨%ha, %f1, Hb1⟩
  subst ha
  sl_exec
  sl_for (redInv d L b0 (X0 m d L 2) (upTo (X0 m d L) 2)) $$ [Hb0]
  case region => exact fun k acc => red_of (t3_eq (F := F) (w3 := 0#32) (w4 := 0#32) (w5 := 0#32) (w6 := 0#32) ..) _ _ k acc
  · iapply (redInv_start d L b0) $$ Hb0; rfl
  iintro %acc HI
  icases (redInv_end d L b0 (X0 m d L) 2 2 rfl k0_t3_loop.trips acc rfl) $$ HI with ⟨%ha, %f2, Hb0⟩
  subst ha
  sl_exec
  sl_for (redInv d L b1 (X0 m d L 3) (upTo (X0 m d L) 3)) $$ [Hb1]
  case region => exact fun k acc => red_of (t4_eq (F := F) (w5 := 0#32) (w6 := 0#32) ..) _ _ k acc
  · iapply (redInv_start d L b1) $$ Hb1; rfl
  iintro %acc HI
  icases (redInv_end d L b1 (X0 m d L) 3 3 rfl k0_t4_loop.trips acc rfl) $$ HI with ⟨%ha, %f3, Hb1⟩
  subst ha
  sl_exec
  sl_for (repInv d L r0 (mean (X0 m d L))) $$ [Hr0]
  case region => exact fun k x => rep_of _ rfl k x
  · iapply (repInv_start d L r0) $$ Hr0
  iintro %x HI
  -- its eight copies out, each from a read share of the buffer of means
  icases (repInv_end d L r0 (mean (X0 m d L)) (rows (mean (X0 m d L))) (fun f hf => hf) k0_t5_loop.trips x rfl) $$ HI with ⟨Hts, Hr0⟩
  icases (Entails.of_eq (bigSep_fin8 _)) $$ Hts with ⟨Ht0, Ht1, Ht2, Ht3, Ht4, Ht5, Ht6, Ht7⟩
  icases (Entails.of_eq (bigSep_fin8 _)) $$ Hos0 with ⟨Ho0, Ho1, Ho2, Ho3, Ho4, Ho5, Ho6, Ho7⟩
  imod (Transfers.batch_alloc' (Lvl := ℕ) countersEmb (thr d L) none (sig.dmaCredit .scVector (Kind.scVector.table .hbm) oA.view.buf S128x128 .f32) (outs m d L) (sm := .dma cc0_scratch5.sem) (E := Set.univ)) $$ Hout with HB
  sl_exec
  -- the second block's four chunks
  sl_for (redInv d L b0 (X1 m d L 0) (upTo (X1 m d L) 0)) $$ [Hb0]
  case region => exact fun k acc => red_of (t6_eq (F := F) (w6 := 0#32) ..) _ _ k acc
  · iapply (redInv_start d L b0) $$ Hb0; rfl
  iintro %acc HI
  icases (redInv_end d L b0 (X1 m d L) 0 0 rfl k0_t6_loop.trips acc rfl) $$ HI with ⟨%ha, %e0, Hb0⟩
  subst ha
  sl_exec
  sl_for (redInv d L b1 (X1 m d L 1) (upTo (X1 m d L) 1)) $$ [Hb1]
  case region => exact fun k acc => red_of (t7_eq (F := F) (w5 := 0#32) (w6 := 0#32) ..) _ _ k acc
  · iapply (redInv_start d L b1) $$ Hb1; rfl
  iintro %acc HI
  icases (redInv_end d L b1 (X1 m d L) 1 1 rfl k0_t7_loop.trips acc rfl) $$ HI with ⟨%ha, %e1, Hb1⟩
  subst ha
  sl_exec
  sl_for (redInv d L b0 (X1 m d L 2) (upTo (X1 m d L) 2)) $$ [Hb0]
  case region => exact fun k acc => red_of (t8_eq (F := F) (w3 := 0#32) (w4 := 0#32) (w5 := 0#32) (w6 := 0#32) ..) _ _ k acc
  · iapply (redInv_start d L b0) $$ Hb0; rfl
  iintro %acc HI
  icases (redInv_end d L b0 (X1 m d L) 2 2 rfl k0_t8_loop.trips acc rfl) $$ HI with ⟨%ha, %e2, Hb0⟩
  subst ha
  sl_exec
  sl_for (redInv d L b1 (X1 m d L 3) (upTo (X1 m d L) 3)) $$ [Hb1]
  case region => exact fun k acc => red_of (t9_eq (F := F) (w2 := 0#32) (w3 := 0#32) (w4 := 0#32) (w5 := 0#32) (w6 := 0#32) ..) _ _ k acc
  · iapply (redInv_start d L b1) $$ Hb1; rfl
  iintro %acc HI
  icases (redInv_end d L b1 (X1 m d L) 3 3 rfl k0_t9_loop.trips acc rfl) $$ HI with ⟨%ha, %e3, Hb1⟩
  subst ha
  sl_exec
  sl_for (repInv d L r1 (mean (X1 m d L))) $$ [Hr1]
  case region => exact fun k x => rep_of (mean (X1 m d L)) (t10_eq (F := F) ..) k x
  · iapply (repInv_start d L r1) $$ Hr1
  iintro %x HI
  -- its eight copies out; then the sixteen waits
  icases (repInv_end d L r1 (mean (X1 m d L)) (rows (mean (X1 m d L))) (fun f hf => hf) k0_t10_loop.trips x rfl) $$ HI with ⟨Hts, Hr1⟩
  icases (Entails.of_eq (bigSep_fin8 _)) $$ Hts with ⟨Ht0, Ht1, Ht2, Ht3, Ht4, Ht5, Ht6, Ht7⟩
  icases (Entails.of_eq (bigSep_fin8 _)) $$ Hos1 with ⟨Ho0, Ho1, Ho2, Ho3, Ho4, Ho5, Ho6, Ho7⟩
  sl_exec
  sl_step
  isplitl [Hx]; · iexact Hx
  isplitl [Hb0]; · iexists _; iexact Hb0
  isplitl [Hb1]; · iexists _; iexact Hb1
  isplitl [HB_dst0 HB_src0 HB_dst1 HB_src1 HB_dst2 HB_src2 HB_dst3 HB_src3 HB_dst4 HB_src4 HB_dst5 HB_src5 HB_dst6 HB_src6 HB_dst7 HB_src7]
  · iapply (Entails.of_eq (bigSep_fin8 _).symm); unfold out0
    isplitl [HB_dst0 HB_src0]
    · isplitl [HB_dst0]; · iexact HB_dst0
      iexact HB_src0
    isplitl [HB_dst1 HB_src1]
    · isplitl [HB_dst1]; · iexact HB_dst1
      iexact HB_src1
    isplitl [HB_dst2 HB_src2]
    · isplitl [HB_dst2]; · iexact HB_dst2
      iexact HB_src2
    isplitl [HB_dst3 HB_src3]
    · isplitl [HB_dst3]; · iexact HB_dst3
      iexact HB_src3
    isplitl [HB_dst4 HB_src4]
    · isplitl [HB_dst4]; · iexact HB_dst4
      iexact HB_src4
    isplitl [HB_dst5 HB_src5]
    · isplitl [HB_dst5]; · iexact HB_dst5
      iexact HB_src5
    isplitl [HB_dst6 HB_src6]
    · isplitl [HB_dst6]; · iexact HB_dst6
      iexact HB_src6
    isplitl [HB_dst7]; · iexact HB_dst7
    iexact HB_src7
  isplitl [HB_dst8 HB_src8 HB_dst9 HB_src9 HB_dst10 HB_src10 HB_dst11 HB_src11 HB_dst12 HB_src12 HB_dst13 HB_src13 HB_dst14 HB_src14 HB_dst15 HB_src15]
  · iapply (Entails.of_eq (bigSep_fin8 _).symm); unfold out1
    isplitl [HB_dst8 HB_src8]
    · isplitl [HB_dst8]; · iexact HB_dst8
      iexact HB_src8
    isplitl [HB_dst9 HB_src9]
    · isplitl [HB_dst9]; · iexact HB_dst9
      iexact HB_src9
    isplitl [HB_dst10 HB_src10]
    · isplitl [HB_dst10]; · iexact HB_dst10
      iexact HB_src10
    isplitl [HB_dst11 HB_src11]
    · isplitl [HB_dst11]; · iexact HB_dst11
      iexact HB_src11
    isplitl [HB_dst12 HB_src12]
    · isplitl [HB_dst12]; · iexact HB_dst12
      iexact HB_src12
    isplitl [HB_dst13 HB_src13]
    · isplitl [HB_dst13]; · iexact HB_dst13
      iexact HB_src13
    isplitl [HB_dst14 HB_src14]
    · isplitl [HB_dst14]; · iexact HB_dst14
      iexact HB_src14
    isplitl [HB_dst15]; · iexact HB_dst15
    iexact HB_src15
  isplitl [Hr0]; · iexact Hr0
  isplitl [Hr1]; · iexact Hr1
  isplitl [Hin]; · iexact Hin
  isplitl [HB]; · iexact HB
  iexists _
  isplitr
  rotate_left
  · iexact HO
  · ipureintro
    intro p hp
    repeat' (rcases Finset.mem_insert.mp hp with rfl | hp; · exact .inr rfl)
    exact .inl hp

end Cert.Proof.Seg
-- ==== Proof.Windows.lean ====
/-
  The windows of the result: which elements each tile writes, that the tiles' windows are the whole array, and that what
  a window receives is the column mean of its structure at every element.
-/
module

public import proofs.«01_k».proof.Proof.Body

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

local notation "𝕄" => MT nD τ sig (HIx 1) (Elt F) ℕ UU ℕ

/-! ## Where the windows lie -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- Coordinates are put together from their two components. -/
theorem coordsV_eta (L : grid0.Coords) : coordsV (L 0) (L 1) = L :=
  funext fun | 0 => rfl | 1 => rfl | ⟨_ + 2, h⟩ => absurd h (Nat.not_lt.2 (Nat.le_add_left _ _))

/-- The number of a tile among the thirty-two. -/
def wid (L : grid0.Coords) : ℕ := 16 * (L 0).val + (L 1).val

/-- Tiles are numbered below 32. -/
theorem wid_lt (L : grid0.Coords) : wid L < 32 := by
  have h0 : (L 0).val < 2 := (L 0).isLt
  have h1 : (L 1).val < 16 := (L 1).isLt
  unfold wid; omega

/-- Where chunk `r` of a tile's first block begins in `x`. -/
theorem off1_eq (L : grid0.Coords) (r : Fin 4) :
    k0_off1 L (BitVec.ofNat 32 (256 * r.val)) = ![wid L / 4 * 1024 + 256 * r.val, wid L % 4 * 128] := by
  rw [← coordsV_eta L]
  exact (show ∀ (c : Fin (grid0.bound 0)) (s : Fin (grid0.bound 1)) (r : Fin 4),
    k0_off1 (coordsV c s) (BitVec.ofNat 32 (256 * r.val)) = ![wid (coordsV c s) / 4 * 1024 + 256 * r.val, wid (coordsV c s) % 4 * 128] by decide +kernel) _ _ r
/-- Where chunk `r` of a tile's second block begins in `x`. -/
theorem off26_eq (L : grid0.Coords) (r : Fin 4) :
    k0_off26 L (BitVec.ofNat 32 (256 * r.val)) = ![(wid L + 32) / 4 * 1024 + 256 * r.val, (wid L + 32) % 4 * 128] := by
  rw [← coordsV_eta L]
  exact (show ∀ (c : Fin (grid0.bound 0)) (s : Fin (grid0.bound 1)) (r : Fin 4),
    k0_off26 (coordsV c s) (BitVec.ofNat 32 (256 * r.val)) = ![(wid (coordsV c s) + 32) / 4 * 1024 + 256 * r.val, (wid (coordsV c s) + 32) % 4 * 128] by decide +kernel) _ _ r
/-- Where window `r` of a tile's first block begins in the result. -/
theorem off43_eq (L : grid0.Coords) (r : Fin 8) :
    k0_off43 L (BitVec.ofNat 32 (128 * r.val)) = ![wid L / 4 * 1024 + 128 * r.val, wid L % 4 * 128] := by
  rw [← coordsV_eta L]
  exact (show ∀ (c : Fin (grid0.bound 0)) (s : Fin (grid0.bound 1)) (r : Fin 8),
    k0_off43 (coordsV c s) (BitVec.ofNat 32 (128 * r.val)) = ![wid (coordsV c s) / 4 * 1024 + 128 * r.val, wid (coordsV c s) % 4 * 128] by decide +kernel) _ _ r
/-- Where window `r` of a tile's second block begins in the result. -/
theorem off84_eq (L : grid0.Coords) (r : Fin 8) :
    k0_off84 L (BitVec.ofNat 32 (128 * r.val)) = ![(wid L + 32) / 4 * 1024 + 128 * r.val, (wid L + 32) % 4 * 128] := by
  rw [← coordsV_eta L]
  exact (show ∀ (c : Fin (grid0.bound 0)) (s : Fin (grid0.bound 1)) (r : Fin 8),
    k0_off84 (coordsV c s) (BitVec.ofNat 32 (128 * r.val)) = ![(wid (coordsV c s) + 32) / 4 * 1024 + 128 * r.val, (wid (coordsV c s) + 32) % 4 * 128] by decide +kernel) _ _ r

/-! ## The result divided among the tiles -/

/-- The block of 1024 rows by 128 columns an element lies in, the blocks counted row-major. -/
def blk (i : S16384x512.Idx) : ℕ := (i 0).val / 1024 * 4 + (i 1).val / 128
/-- An element's SparseCore, its tile there, which of the tile's two blocks it lies in, and its window of that block. -/
def kC (i : S16384x512.Idx) : ℕ := blk i % 32 / 16
def kS (i : S16384x512.Idx) : ℕ := blk i % 16
def kB (i : S16384x512.Idx) : ℕ := blk i / 32
def kR (i : S16384x512.Idx) : ℕ := (i 0).val % 1024 / 128

/-- There are two SparseCores. -/
theorem kC_lt (i : S16384x512.Idx) : kC i < 2 := by unfold kC; omega
/-- A SparseCore has sixteen tiles. -/
theorem kS_lt (i : S16384x512.Idx) : kS i < 16 := by unfold kS; omega
/-- A tile has two blocks. -/
theorem kB_lt (i : S16384x512.Idx) : kB i < 2 := by
  have h0 : (i 0).val < 16384 := (i 0).isLt
  have h1 : (i 1).val < 512 := (i 1).isLt
  unfold kB blk; omega
/-- A block of the result has eight windows. -/
theorem kR_lt (i : S16384x512.Idx) : kR i < 8 := by unfold kR; omega

/-- The elements of a set with a given key. -/
def at_ (S : Finset S16384x512.Idx) (key : S16384x512.Idx → ℕ) (k : ℕ) : Finset S16384x512.Idx := S.filter fun i => key i = k

/-- A region is the separate regions of its keys. -/
theorem split_key {n : ℕ} (d : Dev nD) (S : Finset S16384x512.Idx) (key : S16384x512.Idx → ℕ) (hk : ∀ i, key i < n) (q : PosShare TreeShare)
    (f : Buf (Elt F) (oLoc d)) :
    (oLoc d ↦[S]{q} f : sProp 𝕄) = bigSep Finset.univ fun k : Fin n => oLoc d ↦[at_ S key k.val]{q} f := by
  rw [← pointsTo_biUnion (ℓ := oLoc d) Finset.univ (fun k : Fin n => at_ S key k.val)]
  · congr 1
    ext i
    simp only [Finset.mem_biUnion, Finset.mem_univ, true_and]
    exact ⟨fun h => ⟨⟨key i, hk i⟩, Finset.mem_filter.mpr ⟨h, rfl⟩⟩, fun ⟨k, h⟩ => (Finset.mem_filter.mp h).1⟩
  · intro k _ k' _ h
    refine Finset.disjoint_left.mpr fun i h1 h2 => h (Fin.ext ?_)
    exact (Finset.mem_filter.mp h1).2.symm.trans (Finset.mem_filter.mp h2).2

/-- The elements SparseCore `c` writes, and tile `s` of it. -/
def coreSet (c : ℕ) : Finset S16384x512.Idx := at_ Finset.univ kC c
def tileSet (c s : ℕ) : Finset S16384x512.Idx := at_ (coreSet c) kS s

/-- The elements of window `r` of a tile's first block, by keys. -/
theorem set_oS0 (L : grid0.Coords) (r : Fin 8) : (oS0 L r).view.set = at_ (at_ (tileSet (L 0).val (L 1).val) kB 0) kR r.val := by
  refine (View.set_slice_whole (main_v0_scv : Ref sig .scVector) _).trans ?_
  ext i
  have h0 : (i 0).val < 16384 := (i 0).isLt
  have h1 : (i 1).val < 512 := (i 1).isLt
  have g0 : (L 0).val < 2 := (L 0).isLt
  have g1 : (L 1).val < 16 := (L 1).isLt
  have hr := r.isLt
  refine (Rect.mem_set_unit (s := S16384x512)).trans ?_
  rw [off43_eq]
  unfold tileSet coreSet at_
  simp only [Finset.mem_filter, Finset.mem_univ, true_and]
  unfold kC kS kB kR blk wid
  constructor
  · intro h
    have a0 := h 0
    have a1 := h 1
    simp only [Matrix.cons_val_zero, Matrix.cons_val_one] at a0 a1
    change _ ∧ _ < _ + 128 at a0
    change _ ∧ _ < _ + 128 at a1
    omega
  · rintro ⟨⟨⟨hc, hs⟩, hb⟩, hr'⟩ a
    match a with
    | ⟨0, _⟩ => show _ / 4 * 1024 + 128 * r.val ≤ (i 0).val ∧ (i 0).val < _ + 128 * r.val + 128; omega
    | ⟨1, _⟩ => show _ % 4 * 128 ≤ (i 1).val ∧ (i 1).val < _ % 4 * 128 + 128; omega

/-- The elements of window `r` of a tile's second block, by keys. -/
theorem set_oS1 (L : grid0.Coords) (r : Fin 8) : (oS1 L r).view.set = at_ (at_ (tileSet (L 0).val (L 1).val) kB 1) kR r.val := by
  refine (View.set_slice_whole (main_v0_scv : Ref sig .scVector) _).trans ?_
  ext i
  have h0 : (i 0).val < 16384 := (i 0).isLt
  have h1 : (i 1).val < 512 := (i 1).isLt
  have g0 : (L 0).val < 2 := (L 0).isLt
  have g1 : (L 1).val < 16 := (L 1).isLt
  have hr := r.isLt
  refine (Rect.mem_set_unit (s := S16384x512)).trans ?_
  rw [off84_eq]
  unfold tileSet coreSet at_
  simp only [Finset.mem_filter, Finset.mem_univ, true_and]
  unfold kC kS kB kR blk wid
  constructor
  · intro h
    have a0 := h 0
    have a1 := h 1
    simp only [Matrix.cons_val_zero, Matrix.cons_val_one] at a0 a1
    change _ ∧ _ < _ + 128 at a0
    change _ ∧ _ < _ + 128 at a1
    omega
  · rintro ⟨⟨⟨hc, hs⟩, hb⟩, hr'⟩ a
    match a with
    | ⟨0, _⟩ => show _ / 4 * 1024 + 128 * r.val ≤ (i 0).val ∧ (i 0).val < _ + 128 * r.val + 128; omega
    | ⟨1, _⟩ => show _ % 4 * 128 ≤ (i 1).val ∧ (i 1).val < _ % 4 * 128 + 128; omega

/-- What a tile writes is its sixteen windows. -/
theorem tile_windows (d : Dev nD) (L : grid0.Coords) (f : Buf (Elt F) (oLoc d)) :
    (oLoc d ↦[tileSet (L 0).val (L 1).val]{fullShare} f : sProp 𝕄)
      = iprop((bigSep Finset.univ fun r : Fin 8 => (oS0 L r).view.loc (thr d L) ↦[(oS0 L r).view.set]{fullShare} f)
          ∗ bigSep Finset.univ fun r : Fin 8 => (oS1 L r).view.loc (thr d L) ↦[(oS1 L r).view.set]{fullShare} f) := by
  rw [split_key d (tileSet (L 0).val (L 1).val) kB kB_lt, bigSep_univ_eq_bigSepL [0, 1] (by decide) (by decide)]
  show iprop((oLoc d ↦[at_ (tileSet (L 0).val (L 1).val) kB 0]{fullShare} f) ∗ oLoc d ↦[at_ (tileSet (L 0).val (L 1).val) kB 1]{fullShare} f) = _
  rw [split_key d (at_ (tileSet (L 0).val (L 1).val) kB 0) kR kR_lt, split_key d (at_ (tileSet (L 0).val (L 1).val) kB 1) kR kR_lt]
  refine congrArg₂ BIBase.sep (bigSep_congr fun r _ => ?_) (bigSep_congr fun r _ => ?_)
  · rw [set_oS0]
  · rw [set_oS1]

/-! ## What the windows receive -/

/-- The sum of column `c` over the 1024 rows of structure `s`, added from zero row by row, times 2⁻¹⁰. -/
def segMean (x : Vec F S16384x512 .f32) (s : ℕ) (c : Fin 512) : F .f32 :=
  FloatOps.mulf (sumUp (fun n => x (ix2 (Fin.ofNat 16384 (s * 1024 + n)) c)) (Scalar.ofBits .f32 0#32) 1024) (Scalar.ofBits .f32 0x3A800000#32)

/-- The result: every row of a structure is the structure's mean row. -/
def OUT (m : (ℓ : Loc nD τ sig) → Buf (Elt F) ℓ) (d : Dev nD) : Buf (Elt F) (oLoc d) :=
  (fun i : S16384x512.Idx => segMean (m (xLoc d) : Vec F S16384x512 .f32) ((i 0).val / 1024) (i 1) : Vec F S16384x512 .f32)

/-- A sum of `n + k` terms goes on from the sum of the first `n`. -/
theorem sumUp_add (u : ℕ → F .f32) (a : F .f32) (n k : ℕ) : sumUp u a (n + k) = sumUp (fun i => u (n + i)) (sumUp u a n) k := by
  induction k with
  | zero => rfl
  | succ k ih => show FloatOps.addf (sumUp u a (n + k)) (u (n + k)) = _; rw [ih]; rfl

/-- Sums of equal terms from equal starts are equal. -/
theorem sumUp_congr {u v : ℕ → F .f32} {a b : F .f32} (h : a = b) (n : ℕ) (huv : ∀ i < n, u i = v i) : sumUp u a n = sumUp v b n := by
  subst h
  induction n with
  | zero => rfl
  | succ n ih => show FloatOps.addf _ _ = FloatOps.addf _ _; rw [ih fun i hi => huv i (by omega), huv n (by omega)]

/-- Chunk by chunk the sums are those of one run down the rows. -/
theorem upTo_eq (X : Fin 4 → Vec F S256x128 .f32) (u : Fin 128 → ℕ → F .f32)
    (h : ∀ (r : Fin 4) (a : Fin 256) (c : Fin 128), X r (ix2 a c) = u c (256 * r.val + a.val)) (n : ℕ) (hn : n ≤ 4) (c : Fin 128) :
    upTo X n c = sumUp (u c) (Scalar.ofBits .f32 0#32) (256 * n) := by
  induction n with
  | zero => rfl
  | succ n ih =>
    rw [Nat.mul_succ, sumUp_add]
    show sumUp (col (X (Fin.ofNat 4 n)) c) (upTo X n c) 256 = _
    refine sumUp_congr (ih (by omega)) 256 fun i hi => ?_
    show X (Fin.ofNat 4 n) (ix2 (Fin.ofNat 256 i) c) = _
    rw [h]
    show u c (256 * (n % 4) + i % 256) = _
    rw [Nat.mod_eq_of_lt (by omega), Nat.mod_eq_of_lt hi]

variable (m : (ℓ : Loc nD τ sig) → Buf (Elt F) ℓ) (d : Dev nD) (L : grid0.Coords)

/-- The means of a tile's block number `b` are the means of its structure at the block's columns. -/
theorem mean_eq (X : Fin 4 → Vec F S256x128 .f32) (x : Vec F S16384x512 .f32) (b : ℕ) (hb : b < 64)
    (h : ∀ (r : Fin 4) (a : Fin 256) (c : Fin 128),
      X r (ix2 a c) = x (ix2 (Fin.ofNat 16384 (b / 4 * 1024 + (256 * r.val + a.val))) (Fin.ofNat 512 (b % 4 * 128 + c.val)))) (c : Fin 128) :
    mean X c = segMean x (b / 4) (Fin.ofNat 512 (b % 4 * 128 + c.val)) := by
  unfold mean segMean
  rw [upTo_eq X (fun c n => x (ix2 (Fin.ofNat 16384 (b / 4 * 1024 + n)) (Fin.ofNat 512 (b % 4 * 128 + c.val)))) h 4 le_rfl]

/-- The elements of chunk `r` of a tile's first block, in `x`. -/
theorem X0_eq (r : Fin 4) (a : Fin 256) (c : Fin 128) :
    X0 m d L r (ix2 a c) = (m (xLoc d) : Vec F S16384x512 .f32) (ix2 (Fin.ofNat 16384 (wid L / 4 * 1024 + (256 * r.val + a.val))) (Fin.ofNat 512 (wid L % 4 * 128 + c.val))) := by
  have hw := wid_lt L
  show (m (xLoc d) : Vec F S16384x512 .f32) _ = _
  refine congrArg _ (funext fun t => Fin.ext ?_)
  match t with
  | ⟨0, _⟩ =>
    show k0_off1 L (BitVec.ofNat 32 (256 * r.val)) 0 + 1 * a.val = (wid L / 4 * 1024 + (256 * r.val + a.val)) % 16384
    rw [off1_eq]; show wid L / 4 * 1024 + 256 * r.val + 1 * a.val = _; omega
  | ⟨1, _⟩ =>
    show k0_off1 L (BitVec.ofNat 32 (256 * r.val)) 1 + 1 * c.val = (wid L % 4 * 128 + c.val) % 512
    rw [off1_eq]; show wid L % 4 * 128 + 1 * c.val = _; omega

/-- The elements of chunk `r` of a tile's second block, in `x`. -/
theorem X1_eq (r : Fin 4) (a : Fin 256) (c : Fin 128) :
    X1 m d L r (ix2 a c) = (m (xLoc d) : Vec F S16384x512 .f32) (ix2 (Fin.ofNat 16384 ((wid L + 32) / 4 * 1024 + (256 * r.val + a.val))) (Fin.ofNat 512 ((wid L + 32) % 4 * 128 + c.val))) := by
  have hw := wid_lt L
  show (m (xLoc d) : Vec F S16384x512 .f32) _ = _
  refine congrArg _ (funext fun t => Fin.ext ?_)
  match t with
  | ⟨0, _⟩ =>
    show k0_off26 L (BitVec.ofNat 32 (256 * r.val)) 0 + 1 * a.val = ((wid L + 32) / 4 * 1024 + (256 * r.val + a.val)) % 16384
    rw [off26_eq]; show (wid L + 32) / 4 * 1024 + 256 * r.val + 1 * a.val = _; omega
  | ⟨1, _⟩ =>
    show k0_off26 L (BitVec.ofNat 32 (256 * r.val)) 1 + 1 * c.val = ((wid L + 32) % 4 * 128 + c.val) % 512
    rw [off26_eq]; show (wid L + 32) % 4 * 128 + 1 * c.val = _; omega

/-- Window `r` of the first block, written from the buffer of means, holds the result's elements. -/
theorem lands0 (r : Fin 8) (v : Vec F S128x128 .f32) (hv : v = rows (mean (X0 m d L))) :
    ((oS0 L r).view.loc (thr d L) ↦[(oS0 L r).view.set]{fullShare} (oS0 L r).view.writes (Elt F) (m (oLoc d)) [⟨Rect.whole _, v⟩] : sProp 𝕄)
      = (oS0 L r).view.loc (thr d L) ↦[(oS0 L r).view.set]{fullShare} OUT m d := by
  subst hv
  refine pointsTo_congr fun i hi => ?_
  obtain ⟨y, -, rfl⟩ := Finset.mem_map.mp hi
  refine (congrFun (View.read_writes_whole (oS0 L r).view (m (oLoc d)) (rows (mean (X0 m d L)))) y).trans ?_
  have hw := wid_lt L
  have h0 : (y 0).val < 128 := (y 0).isLt
  have h1 : (y 1).val < 128 := (y 1).isLt
  have hr := r.isLt
  show mean (X0 m d L) (y 1) = _
  refine (mean_eq _ _ (wid L) (by omega) (X0_eq m d L) _).trans ?_
  show segMean _ _ _ = segMean _ _ _
  congr 1
  · show _ = (k0_off43 L (BitVec.ofNat 32 (128 * r.val)) 0 + 1 * (y 0).val) / 1024
    rw [off43_eq]; show _ = (wid L / 4 * 1024 + 128 * r.val + 1 * (y 0).val) / 1024; omega
  · refine Fin.ext ?_
    show (wid L % 4 * 128 + (y 1).val) % 512 = k0_off43 L (BitVec.ofNat 32 (128 * r.val)) 1 + 1 * (y 1).val
    rw [off43_eq]; show _ = wid L % 4 * 128 + 1 * (y 1).val; omega

/-- Window `r` of the second block likewise. -/
theorem lands1 (r : Fin 8) (v : Vec F S128x128 .f32) (hv : v = rows (mean (X1 m d L))) :
    ((oS1 L r).view.loc (thr d L) ↦[(oS1 L r).view.set]{fullShare} (oS1 L r).view.writes (Elt F) (m (oLoc d)) [⟨Rect.whole _, v⟩] : sProp 𝕄)
      = (oS1 L r).view.loc (thr d L) ↦[(oS1 L r).view.set]{fullShare} OUT m d := by
  subst hv
  refine pointsTo_congr fun i hi => ?_
  obtain ⟨y, -, rfl⟩ := Finset.mem_map.mp hi
  refine (congrFun (View.read_writes_whole (oS1 L r).view (m (oLoc d)) (rows (mean (X1 m d L)))) y).trans ?_
  have hw := wid_lt L
  have h0 : (y 0).val < 128 := (y 0).isLt
  have h1 : (y 1).val < 128 := (y 1).isLt
  have hr := r.isLt
  show mean (X1 m d L) (y 1) = _
  refine (mean_eq _ _ (wid L + 32) (by omega) (X1_eq m d L) _).trans ?_
  show segMean _ _ _ = segMean _ _ _
  congr 1
  · show _ = (k0_off84 L (BitVec.ofNat 32 (128 * r.val)) 0 + 1 * (y 0).val) / 1024
    rw [off84_eq]; show _ = ((wid L + 32) / 4 * 1024 + 128 * r.val + 1 * (y 0).val) / 1024; omega
  · refine Fin.ext ?_
    show ((wid L + 32) % 4 * 128 + (y 1).val) % 512 = k0_off84 L (BitVec.ofNat 32 (128 * r.val)) 1 + 1 * (y 1).val
    rw [off84_eq]; show _ = (wid L + 32) % 4 * 128 + 1 * (y 1).val; omega

end Cert.Proof.Seg

end
-- ==== Proof.Launch.lean ====
/-
  The launch: each SparseCore is dealt its half of the result and a read share of `x`, each tile its sixteen windows and a
  read share of that share. The program run from any memory leaves `x` as it was, the column means in the result, and
  every semaphore at zero.
-/
module

public import proofs.«01_k».proof.Proof.Windows
public import Idealize.ShloMosaic.Lib.SparseCore.Quiescent
public import Idealize.ShloMosaic.Lib.StableHlo.Run
public import Idealize.ShloMosaic.Lib.Pipeline.Kit

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

/-- The facts about the launch that the library asks for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg) (d : Dev nD) (L : grid0.Coords)

/-! ## What is dealt -/

/-- The read share of `x` of SparseCore `c`, and that of its tile `s`. -/
abbrev xq (c : ℕ) : PosShare TreeShare := Transfers.shareTokN fullShare c
abbrev xqT (c s : ℕ) : PosShare TreeShare := Transfers.shareTokN (xq c) s

/-- SparseCore `c`'s share of `x` and its half of the result at contents `f`; tile `s`'s share and windows likewise. -/
def coreHas (f : Buf (Elt F) (oLoc d)) (c : ℕ) : sProp 𝕄 := iprop((xLoc d ↦{xq c} m (xLoc d)) ∗ oLoc d ↦[coreSet c]{fullShare} f)
def tileHas (f : Buf (Elt F) (oLoc d)) (c s : ℕ) : sProp 𝕄 := iprop((xLoc d ↦{xqT c s} m (xLoc d)) ∗ oLoc d ↦[tileSet c s]{fullShare} f)

instance coreHas_storable (f : Buf (Elt F) (oLoc d)) (c : ℕ) : BI.Storable (upEmb : UEmb _ 𝕄) (coreHas m d f c) := by unfold coreHas; infer_instance
instance tileHas_storable (f : Buf (Elt F) (oLoc d)) (c s : ℕ) : BI.Storable (upEmb : UEmb _ 𝕄) (tileHas m d f c s) := by unfold tileHas; infer_instance

/-- What the one call carries: out with the result as launched, back with the column means in it. -/
def P : (K (F := F)).Pay (nD := nD) (Val := Elt F) (Name := ℕ) (U := UU) where
  st := fun _ d c => coreHas m d (m (oLoc d)) c.val
  dn := fun _ d c => coreHas m d (OUT m d) c.val
  go := fun _ d c i => tileHas m d (m (oLoc d)) c.val i.val
  td := fun _ d c i => tileHas m d (OUT m d) c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The tile's own buffers and semaphores -/

abbrev cV : Fin τ.nSC := (L 0).castLE hcore0
abbrev jV : Fin τ.nSub := (L 1).castLE hsub0

omit [FloatOps F] in
/-- The two semaphores are among the tile's own. -/
theorem ownSems0_V :
    (ownSems0 (thr d L) : sProp 𝕄)
      = iprop(semVal (cIn d L) 0 ∗ semVal (cOut d L) 0
          ∗ bigSep (((ownCells (thr d L)).erase (cIn d L)).erase (cOut d L)) fun g => semVal g 0) := by
  unfold SparseCore.Cfg.ownSems0
  rw [SparseCore.bigSep_erase' ((mem_ownCells (g := cIn d L)).mpr ⟨rfl, by
      show (SemLoc.dma cc0_scratch4.sem : SemLoc sig).isScoped .scVector = true; decide⟩),
    SparseCore.bigSep_erase' (Finset.mem_erase.mpr ⟨by simp [cIn, cOut]; decide, (mem_ownCells (g := cOut d L)).mpr ⟨rfl, by
      show (SemLoc.dma cc0_scratch5.sem : SemLoc sig).isScoped .scVector = true; decide⟩⟩)]

omit [FloatOps F] in
/-- The four scratch buffers are among the tile's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have ne {b b' : Ref sig .scVector} (h : b ≠ b') : (Proc.scVector (τ := τ) (cV L) (jV L)).devRef b ≠ (Proc.scVector (cV L) (jV L)).devRef b' :=
    fun e => h (Proc.devRef_injective _ e)
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨ne (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
        Finset.mem_erase.mpr ⟨ne (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

omit [FloatOps F] in
/-- Owning the first chunk buffer through its view is owning the whole buffer. -/
theorem pts_b0 (f : Buf (Elt F) ((thr d L).loc cc0_scratch0)) :
    (b0.view.loc (thr d L) ↦[b0.view.set]{fullShare} f : sProp 𝕄) = (thr d L).loc cc0_scratch0 ↦{fullShare} f := by
  simp only [Memref.view_whole, View.set_whole]
omit [FloatOps F] in
/-- The same for the second chunk buffer. -/
theorem pts_b1 (f : Buf (Elt F) ((thr d L).loc cc0_scratch1)) :
    (b1.view.loc (thr d L) ↦[b1.view.set]{fullShare} f : sProp 𝕄) = (thr d L).loc cc0_scratch1 ↦{fullShare} f := by
  simp only [Memref.view_whole, View.set_whole]
omit [FloatOps F] in
/-- The same for the first buffer of means. -/
theorem pts_r0 (f : Buf (Elt F) ((thr d L).loc cc0_scratch2)) :
    (r0.view.loc (thr d L) ↦[r0.view.set]{fullShare} f : sProp 𝕄) = (thr d L).loc cc0_scratch2 ↦{fullShare} f := by
  simp only [Memref.view_whole, View.set_whole]
omit [FloatOps F] in
/-- The same for the second buffer of means. -/
theorem pts_r1 (f : Buf (Elt F) ((thr d L).loc cc0_scratch3)) :
    (r1.view.loc (thr d L) ↦[r1.view.set]{fullShare} f : sProp 𝕄) = (thr d L).loc cc0_scratch3 ↦{fullShare} f := by
  simp only [Memref.view_whole, View.set_whole]

/-! ## What the copies hand back -/

/-- The eight copies of the first block hand back its windows at the result's elements, and the shares of the buffer of
    means, which with what was kept are the buffer. -/
theorem back0 :
    iprop((bigSep Finset.univ fun r => out0 m d L r) ∗ kept d L r0 (rows (mean (X0 m d L)) : Buf (Elt F) (r0.view.loc (thr d L))))
      ⊢ iprop((bigSep Finset.univ fun r : Fin 8 => (oS0 L r).view.loc (thr d L) ↦[(oS0 L r).view.set]{fullShare} OUT m d)
          ∗ r0.view.loc (thr d L) ↦[r0.view.set]{fullShare} (rows (mean (X0 m d L)) : Buf (Elt F) (r0.view.loc (thr d L)))) := by
  unfold out0 kept
  rw [bigSep_sep']
  iintro ⟨⟨Ho, Hs⟩, Hk⟩
  isplitl [Ho]; · iapply (Entails.of_eq (bigSep_congr fun r _ => lands0 m d L r _ rfl)); iexact Ho
  iapply (Transfers.pointsTo_toks_join fullShare 8)
  isplitl [Hk]; · iexact Hk
  iexact Hs

/-- Those of the second block likewise. -/
theorem back1 :
    iprop((bigSep Finset.univ fun r => out1 m d L r) ∗ kept d L r1 (rows (mean (X1 m d L)) : Buf (Elt F) (r1.view.loc (thr d L))))
      ⊢ iprop((bigSep Finset.univ fun r : Fin 8 => (oS1 L r).view.loc (thr d L) ↦[(oS1 L r).view.set]{fullShare} OUT m d)
          ∗ r1.view.loc (thr d L) ↦[r1.view.set]{fullShare} (rows (mean (X1 m d L)) : Buf (Elt F) (r1.view.loc (thr d L)))) := by
  unfold out1 kept
  rw [bigSep_sep']
  iintro ⟨⟨Ho, Hs⟩, Hk⟩
  isplitl [Ho]; · iapply (Entails.of_eq (bigSep_congr fun r _ => lands1 m d L r _ rfl)); iexact Ho
  iapply (Transfers.pointsTo_toks_join fullShare 8)
  isplitl [Hk]; · iexact Hk
  iexact Hs

/-! ## The tile's task -/

/-- The task of the tile at `L`, from what it is dealt to what it hands back: its windows at the result's elements. -/
theorem tile_body (hF : (K (F := F)).Facts) (O : CellTallies nD τ sig (HIx 1)) (W : Waits sig (HIx 1)) (hO : ∀ g, O g none = 0) :
    iprop(levAts (K (F := F)).L (K (F := F)).lev ∗ emp ∗ tileHas m d (m (oLoc d)) (L 0).val (L 1).val
        ∗ scopedBufs (thr d L) ∗ scopedSems0 (thr d L) ∗ owes (thr d L) O W)
      ⊢ wp frame (wpE (defs₀ (F := F)) 𝒱₀ (thr d L) none) Set.univ
          (cc0__body L xA (Memref.isWhole_whole _) oA (Memref.isWhole_whole _) b0 (Memref.isWhole_whole _) b1 (Memref.isWhole_whole _)
            r0 (Memref.isWhole_whole _) r1 (Memref.isWhole_whole _) cc0_scratch4 cc0_scratch5)
          fun _ => iprop(tileHas m d (OUT m d) (L 0).val (L 1).val ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold tileHas
  rw [tile_windows d L, tile_windows d L]
  iintro ⟨#Hlv, -, ⟨Hx, Ho0, Ho1⟩, ⟨⟨%g0, HA⟩, ⟨%g1, HB⟩, ⟨%h0, HC⟩, ⟨%h1, HD⟩, Hbufs⟩, ⟨HI, HJ, Hsems⟩, HO⟩
  ihave Hmw := ((K (F := F)).mayWaits_none (thr := thr d L) hO) $$ Hlv
  ihave HA' := (Entails.of_eq (pts_b0 (F := F) d L _).symm) $$ HA
  ihave HB' := (Entails.of_eq (pts_b1 (F := F) d L _).symm) $$ HB
  ihave HC' := (Entails.of_eq (pts_r0 (F := F) d L _).symm) $$ HC
  ihave HD' := (Entails.of_eq (pts_r1 (F := F) d L _).symm) $$ HD
  iapply (wp_wand_r Idealize.ShloMosaic.frame (wpE (defs₀ (F := F)) 𝒱₀ (thr d L) none) Set.univ)
  isplitl [Hx Ho0 Ho1 HA' HB' HC' HD' HI HJ HO]
  · iapply (tile_run m d L (xqT (L 0).val (L 1).val) O W g0 g1 h0 h1)
    isplitr; · iexact Hmw
    isplitl [Hx]; · iexact Hx
    isplitl [Ho0]; · iexact Ho0
    isplitl [Ho1]; · iexact Ho1
    isplitl [HA']; · iexact HA'
    isplitl [HB']; · iexact HB'
    isplitl [HC']; · iexact HC'
    isplitl [HD']; · iexact HD'
    isplitl [HI]; · iexact HI
    isplitl [HJ]; · iexact HJ
    iexact HO
  iintro %_ ⟨Hx, ⟨%f0, HA'⟩, ⟨%f1, HB'⟩, Ho0, Ho1, Hk0, Hk1, HI, HJ, HO⟩
  ihave H0 := (back0 m d L) $$ [Ho0 Hk0]
  · isplitl [Ho0] <;> iassumption
  icases H0 with ⟨Ho0, HC'⟩
  ihave H1 := (back1 m d L) $$ [Ho1 Hk1]
  · isplitl [Ho1] <;> iassumption
  icases H1 with ⟨Ho1, HD'⟩
  isplitl [Hx Ho0 Ho1]
  · isplitl [Hx]; · iexact Hx
    isplitl [Ho0] <;> iassumption
  isplitl [HA' HB' HC' HD' Hbufs]
  · isplitl [HA']; · iexists _; iapply (Entails.of_eq (pts_b0 (F := F) d L _)); iexact HA'
    isplitl [HB']; · iexists _; iapply (Entails.of_eq (pts_b1 (F := F) d L _)); iexact HB'
    isplitl [HC']; · iexists _; iapply (Entails.of_eq (pts_r0 (F := F) d L _)); iexact HC'
    isplitl [HD']; · iexists _; iapply (Entails.of_eq (pts_r1 (F := F) d L _)); iexact HD'
    iexact Hbufs
  isplitl [HI HJ Hsems]
  · isplitl [HI]; · iexact HI
    isplitl [HJ] <;> iassumption
  iexact HO

/-! ## The launch theorem's obligations -/

/-- What a tile runs is the kernel's body at its SparseCore and tile numbers. -/
theorem defs₀_vector (c : Fin τ.nSC) (s : Fin τ.nSub) :
    defs₀ (F := F) (.scVector c s) 0 ()
      = SparseCore.onTile hcore0 hsub0 (fun c s => cc0__body (coordsV c s)
          xA (Memref.isWhole_whole _) oA (Memref.isWhole_whole _) b0 (Memref.isWhole_whole _) b1 (Memref.isWhole_whole _)
          r0 (Memref.isWhole_whole _) r1 (Memref.isWhole_whole _) cc0_scratch4 cc0_scratch5) ⟨⟩ c s := rfl

omit [FloatOps F] in
/-- A list of waits none of which belongs to a call may be read as one that allows those of call `q`. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile, from what it is given, runs and gives back its part of the result. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A SparseCore's half of the result is its tiles' windows. -/
theorem core_tiles (c : ℕ) (f : Buf (Elt F) (oLoc d)) :
    (oLoc d ↦[coreSet c]{fullShare} f : sProp 𝕄) = bigSep Finset.univ fun i : Fin ((K (F := F)).nSub 0) => oLoc d ↦[tileSet c i.val]{fullShare} f :=
  split_key (n := 16) d (coreSet c) kS kS_lt fullShare f

/-- A SparseCore's part of `x` and of the result splits into its tiles' parts, and is put together from them again. -/
theorem vecSplit : (K (F := F)).VecSplit' (P m) 0 := by
  intro d c
  show coreHas m d (m (oLoc d)) c.val ⊢ |={Set.univ}=> iprop(
      (bigSep Finset.univ fun i : Fin ((K (F := F)).nSub 0) => tileHas m d (m (oLoc d)) c.val i.val)
      ∗ ((bigSep Finset.univ fun i : Fin ((K (F := F)).nSub 0) => tileHas m d (OUT m d) c.val i.val) -∗ coreHas m d (OUT m d) c.val))
  unfold coreHas tileHas
  rw [bigSep_sep', bigSep_sep', core_tiles, core_tiles]
  iintro ⟨Hx, Ho⟩
  ihave Hx' := (Transfers.pointsTo_toks_split (xq c.val) 16) $$ Hx
  icases Hx' with ⟨Hd, Hx⟩
  imodintro
  isplitl [Hx Ho]
  · isplitl [Hx]; · iexact Hx
    iexact Ho
  iintro ⟨Hx, Ho⟩
  isplitl [Hx Hd]
  · iapply (Transfers.pointsTo_toks_join (xq c.val) 16)
    isplitl [Hd]; · iexact Hd
    iexact Hx
  iexact Ho

/-! ## The launch element of the ghost state -/

def u₀ : UU := (initOf (K (F := F)).hsCells (K (F := F)).hsToks, 1)

omit [FloatOps F] in
/-- A separating product of nothing is nothing. -/
theorem bigSep_emp' {I : Type} (s : Finset I) : (bigSep s fun _ => iprop(emp)) = (iprop(emp) : sProp 𝕄) := bigSep_emp_const s

/-- The ghost state that the launch starts from. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
/-- The arrays of the main program are `x` and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the two SparseCores hold together: their shares of `x` and the whole result. -/
theorem cores_have (f : Buf (Elt F) (oLoc d)) :
    (bigSep Finset.univ fun c : Fin 2 => coreHas m d f c.val)
      = iprop((bigSep Finset.univ fun c : Fin 2 => xLoc d ↦{Transfers.shareTok fullShare 2 c} m (xLoc d)) ∗ oLoc d ↦{fullShare} f) := by
  unfold coreHas
  rw [bigSep_sep', split_key (n := 2) d Finset.univ kC kC_lt]
  rfl

/-- What the launch takes: for each SparseCore its share of `x` and its part of the result as it was. -/
theorem st0_eq (d : Dev nD) : (bigSep Finset.univ fun c : Fin ((K (F := F)).nCore 0) => (P m).st 0 d c)
    = iprop((bigSep Finset.univ fun c : Fin 2 => xLoc d ↦{Transfers.shareTok fullShare 2 c} m (xLoc d)) ∗ oLoc d ↦{fullShare} m (oLoc d)) :=
  cores_have m d (m (oLoc d))
/-- What the launch gives back: the same with the means in the result. -/
theorem dn0_eq (d : Dev nD) : (bigSep Finset.univ fun c : Fin ((K (F := F)).nCore 0) => (P m).dn 0 d c)
    = iprop((bigSep Finset.univ fun c : Fin 2 => xLoc d ↦{Transfers.shareTok fullShare 2 c} m (xLoc d)) ∗ oLoc d ↦{fullShare} OUT m d) :=
  cores_have m d (OUT m d)

/-- What @main leaves the claim: `x` as launched, the column means in the result. -/
abbrev FIN (d : Dev nD) : sProp 𝕄 := iprop((xLoc d ↦{fullShare} m (xLoc d)) ∗ oLoc d ↦{fullShare} OUT m d)

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  ihave Hx' := (Transfers.pointsTo_toks_split fullShare 2) $$ Hx
  icases Hx' with ⟨Hd, Hx⟩
  iapply ((K (F := F)).wp_run (D (F := F)) 𝒱 (EH := EH) (P := P m) κ d 0) $$ [Hst Hx Ho Hd Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitr [Hb Hts]
  · isplitl [Hx Hd]
    · iapply (Transfers.pointsTo_toks_join fullShare 2)
      isplitl [Hd]; · iexact Hd
      iexact Hx
    iexact Ho
  isplitl [Hb] <;> iassumption

def fq (d : Dev nD) (s' : Phys nD τ sig (Elt F)) : Prop := s'.mem.mem (xLoc d) = m (xLoc d) ∧ s'.mem.mem (oLoc d) = OUT m d

/-- Who owns `x` and the result with these contents knows that memory holds them. -/
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := OUT m d)) $$ [HSI Ho]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r =>
  (∀ c : Dev nD, r.2.mem (xLoc c) = m (xLoc c) ∧ r.2.mem (oLoc c) = OUT m c) ∧ r.2.sem = fun _ => 0

/-- From any memory the program runs, leaves `x` as it was, `OUT` in the result and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Seg

end
-- ==== Proof.Algebra.lean ====
/-
  The reference's value and the kernel's, at exact arithmetic: both are, at every element, the sum of the column over the
  structure's 1024 rows divided by 1024.
-/
module

public import proofs.«01_k».proof.Proof.Launch
public import proofs.«01_k».proof.Proof.Gen.ReferenceIdeal.Run
public import Idealize.ShloMosaic.Lib.IdealHost
public import Idealize.ShloMosaic.Lib.Pipeline.Value

@[expose] public section

noncomputable section

namespace Cert.Proof.Ref

open Cert.ReferenceIdeal Cert.ReferenceIdeal.Gen

open Idealize.ShloMosaic
open Idealize.ShloMosaic.ValueIdx
open scoped BigOperators

/-! ## The constants -/

/-- The word of 0 is the number 0. -/
theorem ofBits_zero : Ideal.ofBits .f32 0x00000000#32 = 0 := by simp [Ideal.ofBits, Ideal.ieee]
/-- The word of 1024 is the number 1024. -/
theorem ofBits_1024 : Ideal.ofBits .f32 0x44800000#32 = ((1024 : ℝ) : EReal) := by
  simp [Ideal.ofBits, Ideal.ieee, -EReal.coe_mul]; norm_num
/-- The word of 1/1024 is exactly the number 1/1024. -/
theorem ofBits_inv : Ideal.ofBits .f32 0x3A800000#32 = ((1 / 1024 : ℝ) : EReal) := by
  simp [Ideal.ofBits, Ideal.ieee, -EReal.coe_mul]; norm_num

/-! ## The reference -/

/-- The mean of column `c` over structure `s`: the exact sum of its 1024 rows over 1024. -/
def mean (x : FVec Ideal S16384x512 .f32) (s : ℕ) (c : Fin 512) : EReal :=
  Ideal.div (∑ n : Fin 1024, x (ix2 (Fin.ofNat 16384 (s * 1024 + n.val)) c)) ((1024 : ℝ) : EReal)

/-- Structure `k`'s 1024 rows lie inside `x`. -/
theorem slices (k : Fin 16) : S16384x512.Slices ![1024 * k.val, 0] S1024x512 := by revert k; decide

/-- The rows the reference makes for structure `k`: the slice's column sums over 1024, repeated. -/
def piece (x : FVec Ideal S16384x512 .f32) (k : Fin 16) : FVec Ideal S1024x512 .f32 :=
  broadcastInDim S1024x512 ![1] bcast_S512_S1024x512_1
    (Host.divf (Host.reduceAdd (extractStridedSlice S1024x512 ![1024 * k.val, 0] x (slices k)) (constant S_ .f32 0x00000000#32) reducesTo_S1024x512_S512_d0 h_S_)
      (broadcastInDim S512 ![] bcast_S_S512 (constant S_ .f32 0x44800000#32)))

/-- Summing a structure over its rows leaves a row of 512. -/
theorem reduces : S1024x512.Reduces [0] S512 := by decide

/-- Each row of structure `k`'s piece of the reference's result is the structure's mean row. -/
theorem piece_apply (x : FVec Ideal S16384x512 .f32) (k : Fin 16) (a : Fin 1024) (c : Fin 512) : piece x k (ix2 a c) = mean x k.val c := by
  refine (broadcastInDim_apply _ _ _ _ (ix1 c) (fun t => match t with | ⟨0, _⟩ => rfl)).trans ?_
  rw [hostDivf_apply, hostReduceAdd_apply, broadcastInDim_scalar_apply, Ideal.hostReduceAdd_single _ reduces]
  show Ideal.div (Ideal.ofBits .f32 0x00000000#32 + _) (Ideal.ofBits .f32 0x44800000#32) = _
  rw [ofBits_zero, ofBits_1024, zero_add]
  unfold mean
  congr 1
  refine Finset.sum_congr rfl fun n _ => ?_
  have hn : n.val < 1024 := n.isLt
  have hk := k.isLt
  show x _ = x _
  refine congrArg x (funext fun t => Fin.ext ?_)
  match t with
  | ⟨0, _⟩ => show 1024 * k.val + n.val = (k.val * 1024 + n.val) % 16384; omega
  | ⟨1, _⟩ => show 0 + c.val = c.val; omega

/-- The reference's result at an element: the mean of its structure at its column. -/
theorem res_apply (m : (ℓ : Loc nD τ sig) → Buf (Elt Ideal) ℓ) (d : Dev nD) (i : S16384x512.Idx) :
    (Value.res_main_v80 m d : FVec Ideal S16384x512 .f32) i
      = mean (m ((d.tc : Thread nD τ).loc main_arg0) : FVec Ideal S16384x512 .f32) ((i 0).val / 1024) (i 1) := by
  have h0 : (i 0).val < 16384 := (i 0).isLt
  refine Eq.trans ?_ (piece_apply (m ((d.tc : Thread nD τ).loc main_arg0)) ⟨(i 0).val / 1024, by omega⟩ ⟨(i 0).val % 1024, by omega⟩ (i 1))
  refine Eq.trans ?_ (concatenate_ofFn_apply (t := S16384x512) (s₁ := S1024x512) 0 (piece (m ((d.tc : Thread nD τ).loc main_arg0)))
    (show Shape.Concatenates (List.replicate 16 S1024x512) S16384x512 0 by decide) rfl 1024 rfl i ⟨(i 0).val / 1024, by omega⟩ rfl (ix2 ⟨(i 0).val % 1024, by omega⟩ (i 1)) rfl
    (fun b hb => match b with | ⟨0, _⟩ => absurd rfl hb | ⟨1, _⟩ => rfl))
  rfl

end Cert.Proof.Ref

namespace Cert.Proof.Seg

open Cert.KernelIdeal Cert.KernelIdeal.Gen

open Idealize.ShloMosaic
open Idealize.ShloMosaic.ValueIdx
open scoped BigOperators

/-! ## The kernel -/

/-- Added up from the left, exactly, is the sum. -/
theorem sumUp_ideal (u : ℕ → Ideal .f32) (a : Ideal .f32) (n : ℕ) : (sumUp u a n : EReal) = (a : EReal) + ∑ i ∈ Finset.range n, (u i : EReal) := by
  induction n with
  | zero => rw [Finset.range_zero, Finset.sum_empty, add_zero]; rfl
  | succ n ih =>
    show ((sumUp u a n : EReal) + (u n : EReal) : EReal) = _
    rw [ih, Finset.sum_range_succ, add_assoc]

/-- The kernel's mean of a structure is the reference's. -/
theorem segMean_ideal (x : Vec Ideal S16384x512 .f32) (s : ℕ) (c : Fin 512) : (segMean x s c : EReal) = Ref.mean x s c := by
  unfold segMean Ref.mean
  show (sumUp _ (Ideal.ofBits .f32 0x00000000#32) 1024 : EReal) * Ideal.ofBits .f32 0x3A800000#32 = _
  rw [sumUp_ideal, Ref.ofBits_zero, Ref.ofBits_inv, zero_add, Ideal.div_coe (by norm_num), Finset.sum_range]

end Cert.Proof.Seg

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Algebra
public import Idealize.ShloMosaic.Adequacy
public import Idealize.ShloMosaic.Init

@[expose] public section

noncomputable section

namespace Cert.Proof

open Idealize.ShloMosaic Idealize.SL.Sem

/-- The kernel at bit patterns runs, leaves `x` unchanged and every semaphore at zero. -/
theorem frame_kernel : Cert.quiescent_Kernel := fun m ρ _ =>
  (θ_run Cert.KernelIdeal.defs _ _).mono (fun _ h => ⟨fun c => (h.1 c).1, h.2⟩) (Seg.run_main (F := Bits) m ρ)

/-- The kernel at exact arithmetic likewise. -/
theorem frame_ideal : Cert.quiescent_KernelIdeal := fun m ρ _ =>
  (θ_run Cert.KernelIdeal.defs _ _).mono (fun _ h => ⟨fun c => (h.1 c).1, h.2⟩) (Seg.run_main (F := Ideal) m ρ)

/-- The reference runs and leaves `x` unchanged; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The ideal program is the kernel, with no operation rewritten. -/
theorem preserves : Cert.preserves_Kernel_KernelIdeal := trivial

/-- Every element of the kernel's result is the reference's, as extended reals, from any `x`. -/
theorem algebraic : Cert.algebraic_KernelIdeal_ReferenceIdeal := by
  intro m ρ m' ρ' _ hagree
  refine ⟨fun c => Seg.OUT m c, ?_, ?_⟩
  · exact (θ_run Cert.KernelIdeal.defs _ _).mono (fun _ h c => ⟨(h.1 c).2, (h.1 c).1⟩) (Seg.run_main (F := Ideal) m ρ)
  · refine (θ_run Cert.ReferenceIdeal.defs _ _).mono (fun _ h c => ⟨(h c).1.trans ?_, (h c).2⟩) (Cert.ReferenceIdeal.Value.run (F := Ideal) m' ρ')
    funext i
    refine (Ref.res_apply m' c i).trans ?_
    rw [hagree c]
    exact (Seg.segMean_ideal _ _ _).symm

/-- All five claims. -/
theorem claim : Cert.Claim := ⟨Cert.Kernel.Gen.facts, Cert.KernelIdeal.Gen.facts, Cert.ReferenceIdeal.Gen.facts,
  frame_kernel, frame_ideal, frame_reference, preserves, algebraic⟩

end Cert.Proof

end
